-- ==== Defs.lean ====
def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjIdeal_finite_weights [hPre_finite_weights : Cert.Pre_finite_weights.Facts] (m : (ℓ : Loc Cert.InProjIdeal.nD Cert.InProjIdeal.τ Cert.InProjIdeal.sig) → Buf (Elt Ideal) ℓ) : Prop :=
  ∀ c : Dev Cert.InProjIdeal.nD,
    (Cert.Pre_finite_weights.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3))).1 = (fun _ => 1#1)
    ∧ (Cert.Pre_finite_weights.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3))).2.1 = (fun _ => 1#1)
    ∧ (Cert.Pre_finite_weights.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3))).2.2 = (fun _ => 1#1)

def Pre_InProjRefIdeal (m : (ℓ : Loc Cert.InProjRefIdeal.nD Cert.InProjRefIdeal.τ Cert.InProjRefIdeal.sig) → Buf (Elt Ideal) ℓ) : Prop :=
  True

def Pre_InProjRefIdeal_finite_weights [hPre_finite_weights : Cert.Pre_finite_weights.Facts] (m : (ℓ : Loc Cert.InProjRefIdeal.nD Cert.InProjRefIdeal.τ Cert.InProjRefIdeal.sig) → Buf (Elt Ideal) ℓ) : Prop :=
  ∀ c : Dev Cert.InProjRefIdeal.nD,
    (Cert.Pre_finite_weights.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3))).1 = (fun _ => 1#1)
    ∧ (Cert.Pre_finite_weights.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3))).2.1 = (fun _ => 1#1)
    ∧ (Cert.Pre_finite_weights.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3))).2.2 = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Delta (m : (ℓ : Loc Cert.Delta.nD Cert.Delta.τ Cert.Delta.sig) → Buf (Elt Bits) ℓ) : Prop :=
  True

def Pre_DeltaIdeal (m : (ℓ : Loc Cert.DeltaIdeal.nD Cert.DeltaIdeal.τ Cert.DeltaIdeal.sig) → Buf (Elt Ideal) ℓ) : Prop :=
  True

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjIdeal_pre_finite_weights [hInProjIdeal : Cert.InProjIdeal.Facts] [hPre_finite_weights : Cert.Pre_finite_weights.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal_finite_weights m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def quiescent_InProjRefIdeal_pre_finite_weights [hInProjRefIdeal : Cert.InProjRefIdeal.Facts] [hPre_finite_weights : Cert.Pre_finite_weights.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal_finite_weights m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_Delta [hDelta : Cert.Delta.Facts] : Prop :=
  ∀ (m : (ℓ : Loc Cert.Delta.nD Cert.Delta.τ Cert.Delta.sig) → Buf (Elt Bits) ℓ) (g : Dev Cert.Delta.nD → PrngReg), Pre_Delta m →
    θ_run (Cert.Delta.defs (F := Bits)) (onTc (τ := Cert.Delta.τ) (Cert.Delta.main (F := Bits))) ⟨m, fun _ => 0, g⟩ (fun r => (∀ c : Dev Cert.Delta.nD,
      r.2.mem ((c.tc : Thread Cert.Delta.nD Cert.Delta.τ).loc Cert.Delta.main_arg0) = m ((c.tc : Thread Cert.Delta.nD Cert.Delta.τ).loc Cert.Delta.main_arg0)
      ∧ r.2.mem ((c.tc : Thread Cert.Delta.nD Cert.Delta.τ).loc Cert.Delta.main_arg1) = m ((c.tc : Thread Cert.Delta.nD Cert.Delta.τ).loc Cert.Delta.main_arg1)
      ∧ r.2.mem ((c.tc : Thread Cert.Delta.nD Cert.Delta.τ).loc Cert.Delta.main_arg2) = m ((c.tc : Thread Cert.Delta.nD Cert.Delta.τ).loc Cert.Delta.main_arg2)
      ∧ r.2.mem ((c.tc : Thread Cert.Delta.nD Cert.Delta.τ).loc Cert.Delta.main_arg3) = m ((c.tc : Thread Cert.Delta.nD Cert.Delta.τ).loc Cert.Delta.main_arg3)
      ∧ r.2.mem ((c.tc : Thread Cert.Delta.nD Cert.Delta.τ).loc Cert.Delta.main_arg4) = m ((c.tc : Thread Cert.Delta.nD Cert.Delta.τ).loc Cert.Delta.main_arg4)
      ∧ r.2.mem ((c.tc : Thread Cert.Delta.nD Cert.Delta.τ).loc Cert.Delta.main_arg5) = m ((c.tc : Thread Cert.Delta.nD Cert.Delta.τ).loc Cert.Delta.main_arg5))
      ∧ r.2.sem = fun _ => 0)

def quiescent_DeltaIdeal [hDeltaIdeal : Cert.DeltaIdeal.Facts] : Prop :=
  ∀ (m : (ℓ : Loc Cert.DeltaIdeal.nD Cert.DeltaIdeal.τ Cert.DeltaIdeal.sig) → Buf (Elt Ideal) ℓ) (g : Dev Cert.DeltaIdeal.nD → PrngReg), Pre_DeltaIdeal m →
    θ_run (Cert.DeltaIdeal.defs (F := Ideal)) (onTc (τ := Cert.DeltaIdeal.τ) (Cert.DeltaIdeal.main (F := Ideal))) ⟨m, fun _ => 0, g⟩ (fun r => (∀ c : Dev Cert.DeltaIdeal.nD,
      r.2.mem ((c.tc : Thread Cert.DeltaIdeal.nD Cert.DeltaIdeal.τ).loc Cert.DeltaIdeal.main_arg0) = m ((c.tc : Thread Cert.DeltaIdeal.nD Cert.DeltaIdeal.τ).loc Cert.DeltaIdeal.main_arg0)
      ∧ r.2.mem ((c.tc : Thread Cert.DeltaIdeal.nD Cert.DeltaIdeal.τ).loc Cert.DeltaIdeal.main_arg1) = m ((c.tc : Thread Cert.DeltaIdeal.nD Cert.DeltaIdeal.τ).loc Cert.DeltaIdeal.main_arg1)
      ∧ r.2.mem ((c.tc : Thread Cert.DeltaIdeal.nD Cert.DeltaIdeal.τ).loc Cert.DeltaIdeal.main_arg2) = m ((c.tc : Thread Cert.DeltaIdeal.nD Cert.DeltaIdeal.τ).loc Cert.DeltaIdeal.main_arg2)
      ∧ r.2.mem ((c.tc : Thread Cert.DeltaIdeal.nD Cert.DeltaIdeal.τ).loc Cert.DeltaIdeal.main_arg3) = m ((c.tc : Thread Cert.DeltaIdeal.nD Cert.DeltaIdeal.τ).loc Cert.DeltaIdeal.main_arg3)
      ∧ r.2.mem ((c.tc : Thread Cert.DeltaIdeal.nD Cert.DeltaIdeal.τ).loc Cert.DeltaIdeal.main_arg4) = m ((c.tc : Thread Cert.DeltaIdeal.nD Cert.DeltaIdeal.τ).loc Cert.DeltaIdeal.main_arg4)
      ∧ r.2.mem ((c.tc : Thread Cert.DeltaIdeal.nD Cert.DeltaIdeal.τ).loc Cert.DeltaIdeal.main_arg5) = m ((c.tc : Thread Cert.DeltaIdeal.nD Cert.DeltaIdeal.τ).loc Cert.DeltaIdeal.main_arg5))
      ∧ r.2.sem = fun _ => 0)

def preserves_InProj_InProjIdeal : Prop :=
  True

def algebraic_InProjIdeal_InProjRefIdeal_pre_finite_weights [hInProjIdeal : Cert.InProjIdeal.Facts] [hInProjRefIdeal : Cert.InProjRefIdeal.Facts] [hPre_finite_weights : Cert.Pre_finite_weights.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal_finite_weights m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v13_0)) (v1 : (c : Dev Cert.InProjIdeal.nD) → Buf (Elt Ideal) ((c.tc : Thread Cert.InProjIdeal.nD Cert.InProjIdeal.τ).loc Cert.InProjIdeal.main_v13_1)) (v2 : (c : Dev Cert.InProjIdeal.nD) → Buf (Elt Ideal) ((c.tc : Thread Cert.InProjIdeal.nD Cert.InProjIdeal.τ).loc Cert.InProjIdeal.main_v13_2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v13_0) = v0 c
          ∧ r.2.mem ((c.tc : Thread Cert.InProjIdeal.nD Cert.InProjIdeal.τ).loc Cert.InProjIdeal.main_v13_1) = v1 c
          ∧ r.2.mem ((c.tc : Thread Cert.InProjIdeal.nD Cert.InProjIdeal.τ).loc Cert.InProjIdeal.main_v13_2) = v2 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v54) = v0 c
          ∧ r.2.mem ((c.tc : Thread Cert.InProjRefIdeal.nD Cert.InProjRefIdeal.τ).loc Cert.InProjRefIdeal.main_v56) = v1 c
          ∧ r.2.mem ((c.tc : Thread Cert.InProjRefIdeal.nD Cert.InProjRefIdeal.τ).loc Cert.InProjRefIdeal.main_v57) = v2 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v13)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v13) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v41) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_Delta_DeltaIdeal : Prop :=
  True

def Claim : Prop :=
  ∃ (hInProj : Cert.InProj.Facts) (hInProjIdeal : Cert.InProjIdeal.Facts) (hInProjRefIdeal : Cert.InProjRefIdeal.Facts) (hMerge : Cert.Merge.Facts) (hMergeIdeal : Cert.MergeIdeal.Facts) (hMergeRefIdeal : Cert.MergeRefIdeal.Facts) (hDelta : Cert.Delta.Facts) (hDeltaIdeal : Cert.DeltaIdeal.Facts) (hPre_finite_weights : Cert.Pre_finite_weights.Facts),
    quiescent_InProj (hInProj := hInProj)
    ∧ quiescent_InProjIdeal (hInProjIdeal := hInProjIdeal)
    ∧ quiescent_InProjIdeal_pre_finite_weights (hInProjIdeal := hInProjIdeal) (hPre_finite_weights := hPre_finite_weights)
    ∧ quiescent_InProjRefIdeal (hInProjRefIdeal := hInProjRefIdeal)
    ∧ quiescent_InProjRefIdeal_pre_finite_weights (hInProjRefIdeal := hInProjRefIdeal) (hPre_finite_weights := hPre_finite_weights)
    ∧ quiescent_Merge (hMerge := hMerge)
    ∧ quiescent_MergeIdeal (hMergeIdeal := hMergeIdeal)
    ∧ quiescent_MergeRefIdeal (hMergeRefIdeal := hMergeRefIdeal)
    ∧ quiescent_Delta (hDelta := hDelta)
    ∧ quiescent_DeltaIdeal (hDeltaIdeal := hDeltaIdeal)
    ∧ preserves_InProj_InProjIdeal
    ∧ algebraic_InProjIdeal_InProjRefIdeal_pre_finite_weights (hInProjIdeal := hInProjIdeal) (hInProjRefIdeal := hInProjRefIdeal) (hPre_finite_weights := hPre_finite_weights)
    ∧ preserves_Merge_MergeIdeal
    ∧ algebraic_MergeIdeal_MergeRefIdeal (hMergeIdeal := hMergeIdeal) (hMergeRefIdeal := hMergeRefIdeal)
    ∧ preserves_Delta_DeltaIdeal
-- ==== Pre_finite_weights.lean ====
abbrev S4x8192x1024 : Shape := ⟨3, ![4, 8192, 1024]⟩
abbrev S1024 : Shape := ⟨1, ![1024]⟩
abbrev S1024x10256 : Shape := ⟨2, ![1024, 10256]⟩
abbrev S4x3072 : Shape := ⟨2, ![4, 3072]⟩
abbrev S_ : Shape := ⟨0, ![]⟩

class Facts : Prop where
  bcast_S_S1024 : S_.BroadcastsInDim S1024 (![] : Fin 0 → Fin S1024.rank)
  bcast_S_S1024x10256 : S_.BroadcastsInDim S1024x10256 (![] : Fin 0 → Fin S1024x10256.rank)
  bcast_S_S4x3072 : S_.BroadcastsInDim S4x3072 (![] : Fin 0 → Fin S4x3072.rank)

variable [Facts]

def fn {F : FTy → Type} [FloatOps F] (main_arg0 : FVec F S4x8192x1024 .f32) (main_arg1 : FVec F S1024 .f32) (main_arg2 : FVec F S1024x10256 .f32) (main_arg3 : FVec F S4x3072 .f32) : IVec S1024 1 × IVec S1024x10256 1 × IVec S4x3072 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x10256 .f32 := Host.absf main_arg2
  let main_cst_0 : FVec F S_ .f32 := constant S_ .f32 0x7F800000#32
  let main_v4 : FVec F S1024x10256 .f32 := broadcastInDim S1024x10256 ![] bcast_S_S1024x10256 main_cst_0
  let main_v5 : IVec S1024x10256 1 := cmpf .olt main_v3 main_v4
  let main_v6 : FVec F S4x3072 .f32 := Host.absf main_arg3
  let main_cst_1 : FVec F S_ .f32 := constant S_ .f32 0x7F800000#32
  let main_v7 : FVec F S4x3072 .f32 := broadcastInDim S4x3072 ![] bcast_S_S4x3072 main_cst_1
  let main_v8 : IVec S4x3072 1 := cmpf .olt main_v6 main_v7
  (main_v2, main_v5, main_v8)
-- ==== InProj.lean ====
abbrev S4x8192x1024 : Shape := ⟨3, ![4, 8192, 1024]⟩
abbrev S1024 : Shape := ⟨1, ![1024]⟩
abbrev S1024x10256 : Shape := ⟨2, ![1024, 10256]⟩
abbrev S4x3072 : Shape := ⟨2, ![4, 3072]⟩
abbrev S1024x3072 : Shape := ⟨2, ![1024, 3072]⟩
abbrev S1024x1024 : Shape := ⟨2, ![1024, 1024]⟩
abbrev S1024x6144 : Shape := ⟨2, ![1024, 6144]⟩
abbrev S1024x7168 : Shape := ⟨2, ![1024, 7168]⟩
abbrev S1024x16 : Shape := ⟨2, ![1024, 16]⟩
abbrev S_ : Shape := ⟨0, ![]⟩
abbrev S1024x128 : Shape := ⟨2, ![1024, 128]⟩
abbrev S32768x1024 : Shape := ⟨2, ![32768, 1024]⟩
abbrev S1x1024 : Shape := ⟨2, ![1, 1024]⟩
abbrev S1x5120 : Shape := ⟨2, ![1, 5120]⟩
abbrev S1x7168 : Shape := ⟨2, ![1, 7168]⟩
abbrev S32768x3072 : Shape := ⟨2, ![32768, 3072]⟩
abbrev S32768x7168 : Shape := ⟨2, ![32768, 7168]⟩
abbrev S32768x128 : Shape := ⟨2, ![32768, 128]⟩
abbrev S16x1024 : Shape := ⟨2, ![16, 1024]⟩
abbrev S1024x768 : Shape := ⟨2, ![1024, 768]⟩
abbrev S1024x1792 : Shape := ⟨2, ![1024, 1792]⟩
abbrev S1x1792 : Shape := ⟨2, ![1, 1792]⟩
abbrev S4x768 : Shape := ⟨2, ![4, 768]⟩
abbrev S1024x1 : Shape := ⟨2, ![1024, 1]⟩
abbrev S16 : Shape := ⟨1, ![16]⟩
abbrev S16x1 : Shape := ⟨2, ![16, 1]⟩
abbrev S16x768 : Shape := ⟨2, ![16, 768]⟩
abbrev S256x1024 : Shape := ⟨2, ![256, 1024]⟩
abbrev S256x768 : Shape := ⟨2, ![256, 768]⟩
abbrev S256x1792 : Shape := ⟨2, ![256, 1792]⟩
abbrev S272x768 : Shape := ⟨2, ![272, 768]⟩
abbrev S1x768 : Shape := ⟨2, ![1, 768]⟩

abbrev nBuf : Space → Nat
  | .hbm => 25
  | .vmem => 22
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x10256, .f32⟩
  | .hbm, ⟨3, _⟩ => ⟨S4x3072, .f32⟩
  | .hbm, ⟨4, _⟩ => ⟨S1024x10256, .bf16⟩
  | .hbm, ⟨5, _⟩ => ⟨S1024x3072, .bf16⟩
  | .hbm, ⟨6, _⟩ => ⟨S1024x1024, .bf16⟩
  | .hbm, ⟨7, _⟩ => ⟨S1024x6144, .bf16⟩
  | .hbm, ⟨8, _⟩ => ⟨S1024x7168, .bf16⟩
  | .hbm, ⟨9, _⟩ => ⟨S1024x16, .bf16⟩
  | .hbm, ⟨10, _⟩ => ⟨S_, .i32⟩
  | .hbm, ⟨11, _⟩ => ⟨S_, .bf16⟩
  | .hbm, ⟨12, _⟩ => ⟨S1024x128, .bf16⟩
  | .hbm, ⟨13, _⟩ => ⟨S32768x1024, .f32⟩
  | .hbm, ⟨14, _⟩ => ⟨S_, .f32⟩
  | .hbm, ⟨15, _⟩ => ⟨S1x1024, .f32⟩
  | .hbm, ⟨16, _⟩ => ⟨S_, .f32⟩
  | .hbm, ⟨17, _⟩ => ⟨S1x1024, .f32⟩
  | .hbm, ⟨18, _⟩ => ⟨S_, .f32⟩
  | .hbm, ⟨19, _⟩ => ⟨S1x5120, .f32⟩
  | .hbm, ⟨20, _⟩ => ⟨S1x7168, .f32⟩
  | .hbm, ⟨21, _⟩ => ⟨S1x1024, .f32⟩
  | .hbm, ⟨22, _⟩ => ⟨S32768x3072, .bf16⟩
  | .hbm, ⟨23, _⟩ => ⟨S32768x7168, .bf16⟩
  | .hbm, ⟨24, _⟩ => ⟨S32768x128, .f32⟩
  | .local _ .vmem, ⟨0, _⟩ => ⟨S1024x1024, .f32⟩
  | .local _ .vmem, ⟨1, _⟩ => ⟨S1024x1024, .f32⟩
  | .local _ .vmem, ⟨2, _⟩ => ⟨S16x1024, .f32⟩
  | .local _ .vmem, ⟨3, _⟩ => ⟨S16x1024, .f32⟩
  | .local _ .vmem, ⟨4, _⟩ => ⟨S1x1024, .f32⟩
  | .local _ .vmem, ⟨5, _⟩ => ⟨S1024x768, .bf16⟩
  | .local _ .vmem, ⟨6, _⟩ => ⟨S1024x768, .bf16⟩
  | .local _ .vmem, ⟨7, _⟩ => ⟨S1024x1792, .bf16⟩
  | .local _ .vmem, ⟨8, _⟩ => ⟨S1024x1792, .bf16⟩
  | .local _ .vmem, ⟨9, _⟩ => ⟨S1x1792, .f32⟩
  | .local _ .vmem, ⟨10, _⟩ => ⟨S1x1792, .f32⟩
  | .local _ .vmem, ⟨11, _⟩ => ⟨S1024x128, .bf16⟩
  | .local _ .vmem, ⟨12, _⟩ => ⟨S4x768, .f32⟩
  | .local _ .vmem, ⟨13, _⟩ => ⟨S4x768, .f32⟩
  | .local _ .vmem, ⟨14, _⟩ => ⟨S1024x768, .bf16⟩
  | .local _ .vmem, ⟨15, _⟩ => ⟨S1024x768, .bf16⟩
  | .local _ .vmem, ⟨16, _⟩ => ⟨S1024x1792, .bf16⟩
  | .local _ .vmem, ⟨17, _⟩ => ⟨S1024x1792, .bf16⟩
  | .local _ .vmem, ⟨18, _⟩ => ⟨S1024x128, .f32⟩
  | .local _ .vmem, ⟨19, _⟩ => ⟨S1024x128, .f32⟩
  | .local _ .vmem, ⟨20, _⟩ => ⟨S1024x1024, .bf16⟩
  | .local _ .vmem, ⟨21, _⟩ => ⟨S16x1024, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v13_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![32, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1792 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S4x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x1792 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== InProjRefIdeal.lean ====
abbrev S4x8192x1024 : Shape := ⟨3, ![4, 8192, 1024]⟩
abbrev S1024 : Shape := ⟨1, ![1024]⟩
abbrev S1024x10256 : Shape := ⟨2, ![1024, 10256]⟩
abbrev S4x3072 : Shape := ⟨2, ![4, 3072]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x10256 : Shape := ⟨3, ![4, 8192, 10256]⟩
abbrev S4x8192x3072 : Shape := ⟨3, ![4, 8192, 3072]⟩
abbrev S4x8192x16 : Shape := ⟨3, ![4, 8192, 16]⟩
abbrev S4x8192x6144 : Shape := ⟨3, ![4, 8192, 6144]⟩
abbrev S4x8195x3072 : Shape := ⟨3, ![4, 8195, 3072]⟩
abbrev S1x3072 : Shape := ⟨2, ![1, 3072]⟩
abbrev S3072 : Shape := ⟨1, ![3072]⟩
abbrev S1x1x3072 : Shape := ⟨3, ![1, 1, 3072]⟩
abbrev S4x8192x5120 : Shape := ⟨3, ![4, 8192, 5120]⟩
abbrev S4x8192x7168 : Shape := ⟨3, ![4, 8192, 7168]⟩
abbrev S4x8192x128 : Shape := ⟨3, ![4, 8192, 128]⟩
abbrev S32768x3072 : Shape := ⟨2, ![32768, 3072]⟩
abbrev S32768x7168 : Shape := ⟨2, ![32768, 7168]⟩
abbrev S32768x128 : Shape := ⟨2, ![32768, 128]⟩

abbrev nBuf : Space → Nat
  | .hbm => 78
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x10256, .f32⟩
  | .hbm, ⟨3, _⟩ => ⟨S4x3072, .f32⟩
  | .hbm, ⟨4, _⟩ => ⟨S4x8192x1024, .f32⟩
  | .hbm, ⟨5, _⟩ => ⟨S_, .f32⟩
  | .hbm, ⟨6, _⟩ => ⟨S4x8192, .f32⟩
  | .hbm, ⟨7, _⟩ => ⟨S4x8192x1, .f32⟩
  | .hbm, ⟨8, _⟩ => ⟨S_, .f32⟩
  | .hbm, ⟨9, _⟩ => ⟨S4x8192x1, .f32⟩
  | .hbm, ⟨10, _⟩ => ⟨S4x8192x1, .f32⟩
  | .hbm, ⟨11, _⟩ => ⟨S_, .f32⟩
  | .hbm, ⟨12, _⟩ => ⟨S4x8192x1, .f32⟩
  | .hbm, ⟨13, _⟩ => ⟨S4x8192x1, .f32⟩
  | .hbm, ⟨14, _⟩ => ⟨S4x8192x1, .f32⟩
  | .hbm, ⟨15, _⟩ => ⟨S4x8192x1024, .f32⟩
  | .hbm, ⟨16, _⟩ => ⟨S4x8192x1024, .f32⟩
  | .hbm, ⟨17, _⟩ => ⟨S1x1x1024, .f32⟩
  | .hbm, ⟨18, _⟩ => ⟨S4x8192x1024, .f32⟩
  | .hbm, ⟨19, _⟩ => ⟨S4x8192x1024, .f32⟩
  | .hbm, ⟨20, _⟩ => ⟨S4x8192x10256, .f32⟩
  | .hbm, ⟨21, _⟩ => ⟨S4x8192x3072, .f32⟩
  | .hbm, ⟨22, _⟩ => ⟨S4x8192x1024, .f32⟩
  | .hbm, ⟨23, _⟩ => ⟨S4x8192x16, .f32⟩
  | .hbm, ⟨24, _⟩ => ⟨S4x8192x6144, .f32⟩
  | .hbm, ⟨25, _⟩ => ⟨S_, .i32⟩
  | .hbm, ⟨26, _⟩ => ⟨S_, .f32⟩
  | .hbm, ⟨27, _⟩ => ⟨S4x8195x3072, .f32⟩
  | .hbm, ⟨28, _⟩ => ⟨S4x8192x3072, .f32⟩
  | .hbm, ⟨29, _⟩ => ⟨S1x3072, .f32⟩
  | .hbm, ⟨30, _⟩ => ⟨S3072, .f32⟩
  | .hbm, ⟨31, _⟩ => ⟨S1x1x3072, .f32⟩
  | .hbm, ⟨32, _⟩ => ⟨S4x8192x3072, .f32⟩
  | .hbm, ⟨33, _⟩ => ⟨S4x8192x3072, .f32⟩
  | .hbm, ⟨34, _⟩ => ⟨S4x8192x3072, .f32⟩
  | .hbm, ⟨35, _⟩ => ⟨S1x3072, .f32⟩
  | .hbm, ⟨36, _⟩ => ⟨S3072, .f32⟩
  | .hbm, ⟨37, _⟩ => ⟨S1x1x3072, .f32⟩
  | .hbm, ⟨38, _⟩ => ⟨S4x8192x3072, .f32⟩
  | .hbm, ⟨39, _⟩ => ⟨S4x8192x3072, .f32⟩
  | .hbm, ⟨40, _⟩ => ⟨S4x8192x3072, .f32⟩
  | .hbm, ⟨41, _⟩ => ⟨S4x8192x3072, .f32⟩
  | .hbm, ⟨42, _⟩ => ⟨S1x3072, .f32⟩
  | .hbm, ⟨43, _⟩ => ⟨S3072, .f32⟩
  | .hbm, ⟨44, _⟩ => ⟨S1x1x3072, .f32⟩
  | .hbm, ⟨45, _⟩ => ⟨S4x8192x3072, .f32⟩
  | .hbm, ⟨46, _⟩ => ⟨S4x8192x3072, .f32⟩
  | .hbm, ⟨47, _⟩ => ⟨S4x8192x3072, .f32⟩
  | .hbm, ⟨48, _⟩ => ⟨S4x8192x3072, .f32⟩
  | .hbm, ⟨49, _⟩ => ⟨S1x3072, .f32⟩
  | .hbm, ⟨50, _⟩ => ⟨S3072, .f32⟩
  | .hbm, ⟨51, _⟩ => ⟨S1x1x3072, .f32⟩
  | .hbm, ⟨52, _⟩ => ⟨S4x8192x3072, .f32⟩
  | .hbm, ⟨53, _⟩ => ⟨S4x8192x3072, .f32⟩
  | .hbm, ⟨54, _⟩ => ⟨S4x8192x3072, .f32⟩
  | .hbm, ⟨55, _⟩ => ⟨S4x8192x1024, .f32⟩
  | .hbm, ⟨56, _⟩ => ⟨S_, .f32⟩
  | .hbm, ⟨57, _⟩ => ⟨S4x8192x1024, .f32⟩
  | .hbm, ⟨58, _⟩ => ⟨S4x8192x1024, .f32⟩
  | .hbm, ⟨59, _⟩ => ⟨S4x8192x5120, .f32⟩
  | .hbm, ⟨60, _⟩ => ⟨S4x8192x7168, .f32⟩
  | .hbm, ⟨61, _⟩ => ⟨S_, .i32⟩
  | .hbm, ⟨62, _⟩ => ⟨S_, .f32⟩
  | .hbm, ⟨63, _⟩ => ⟨S4x8192x128, .f32⟩
  | .hbm, ⟨64, _⟩ => ⟨S4x8192x3072, .f32⟩
  | .hbm, ⟨65, _⟩ => ⟨S4x8192x3072, .f32⟩
  | .hbm, ⟨66, _⟩ => ⟨S_, .f32⟩
  | .hbm, ⟨67, _⟩ => ⟨S4x8192x3072, .f32⟩
  | .hbm, ⟨68, _⟩ => ⟨S4x8192x3072, .f32⟩
  | .hbm, ⟨69, _⟩ => ⟨S_, .f32⟩
  | .hbm, ⟨70, _⟩ => ⟨S4x8192x3072, .f32⟩
  | .hbm, ⟨71, _⟩ => ⟨S4x8192x3072, .f32⟩
  | .hbm, ⟨72, _⟩ => ⟨S4x8192x3072, .f32⟩
  | .hbm, ⟨73, _⟩ => ⟨S32768x3072, .f32⟩
  | .hbm, ⟨74, _⟩ => ⟨S32768x3072, .bf16⟩
  | .hbm, ⟨75, _⟩ => ⟨S32768x7168, .f32⟩
  | .hbm, ⟨76, _⟩ => ⟨S32768x7168, .bf16⟩
  | .hbm, ⟨77, _⟩ => ⟨S32768x128, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c : Ref sig .tc := ⟨.hbm, 25, rfl⟩
abbrev main_call0_v0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_cst_2 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_c_3 : Ref sig .tc := ⟨.hbm, 61, rfl⟩
abbrev main_call1_v0 : Ref sig .tc := ⟨.hbm, 62, rfl⟩
abbrev main_v51 : Ref sig .tc := ⟨.hbm, 63, rfl⟩
abbrev main_call2_v0 : Ref sig .tc := ⟨.hbm, 64, rfl⟩
abbrev main_call2_v1 : Ref sig .tc := ⟨.hbm, 65, rfl⟩
abbrev main_call2_cst : Ref sig .tc := ⟨.hbm, 66, rfl⟩
abbrev main_call2_v2 : Ref sig .tc := ⟨.hbm, 67, rfl⟩
abbrev main_call2_v3 : Ref sig .tc := ⟨.hbm, 68, rfl⟩
abbrev main_call2_cst_0 : Ref sig .tc := ⟨.hbm, 69, rfl⟩
abbrev main_call2_v4 : Ref sig .tc := ⟨.hbm, 70, rfl⟩
abbrev main_call2_v5 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩

abbrev nD : Nat := 1
abbrev τ : Topo := Topo.v7x

variable {F : FTy → Type} [FloatOps F]
-- ==== Merge.lean ====
abbrev S4x8192x1024 : Shape := ⟨3, ![4, 8192, 1024]⟩
abbrev S32768x7168 : Shape := ⟨2, ![32768, 7168]⟩
abbrev S2048 : Shape := ⟨1, ![2048]⟩
abbrev S2x1024x1024 : Shape := ⟨3, ![2, 1024, 1024]⟩
abbrev S1024x1024 : Shape := ⟨2, ![1024, 1024]⟩
abbrev S1024 : Shape := ⟨1, ![1024]⟩
abbrev S32768x1024 : Shape := ⟨2, ![32768, 1024]⟩
abbrev S1x1024x1024 : Shape := ⟨3, ![1, 1024, 1024]⟩
abbrev S1x2048 : Shape := ⟨2, ![1, 2048]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 22
  | .vmem => 18
  | .smem => 0
  | _ => 0

abbrev bufTy : (tb : Table) → Fin (tcTables nBuf tb) → BufTy
  | .hbm, ⟨0, _⟩ => ⟨S4x8192x1024, .bf16⟩
  | .hbm, ⟨1, _⟩ => ⟨S4x8192x1024, .bf16⟩
  | .hbm, ⟨2, _⟩ => ⟨S32768x7168, .bf16⟩
  | .hbm, ⟨3, _⟩ => ⟨S4x8192x1024, .f32⟩
  | .hbm, ⟨4, _⟩ => ⟨S2048, .f32⟩
  | .hbm, ⟨5, _⟩ => ⟨S2x1024x1024, .f32⟩
  | .hbm, ⟨6, _⟩ => ⟨S1024x1024, .f32⟩
  | .hbm, ⟨7, _⟩ => ⟨S1024, .f32⟩
  | .hbm, ⟨8, _⟩ => ⟨S32768x1024, .f32⟩
  | .hbm, ⟨9, _⟩ => ⟨S32768x1024, .bf16⟩
  | .hbm, ⟨10, _⟩ => ⟨S32768x1024, .bf16⟩
  | .hbm, ⟨11, _⟩ => ⟨S1x1024x1024, .f32⟩
  | .hbm, ⟨12, _⟩ => ⟨S1024x1024, .f32⟩
  | .hbm, ⟨13, _⟩ => ⟨S1024x1024, .bf16⟩
  | .hbm, ⟨14, _⟩ => ⟨S1x1024x1024, .f32⟩
  | .hbm, ⟨15, _⟩ => ⟨S1024x1024, .f32⟩
  | .hbm, ⟨16, _⟩ => ⟨S1024x1024, .bf16⟩
  | .hbm, ⟨17, _⟩ => ⟨S1024x1024, .bf16⟩
  | .hbm, ⟨18, _⟩ => ⟨S1x2048, .f32⟩
  | .hbm, ⟨19, _⟩ => ⟨S1x2048, .f32⟩
  | .hbm, ⟨20, _⟩ => ⟨S1x1024, .f32⟩
  | .hbm, ⟨21, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | _, _ => ⟨S4x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MergeRefIdeal.lean ====
abbrev S4x8192x1024 : Shape := ⟨3, ![4, 8192, 1024]⟩
abbrev S32768x7168 : Shape := ⟨2, ![32768, 7168]⟩
abbrev S2048 : Shape := ⟨1, ![2048]⟩
abbrev S2x1024x1024 : Shape := ⟨3, ![2, 1024, 1024]⟩
abbrev S1024x1024 : Shape := ⟨2, ![1024, 1024]⟩
abbrev S1024 : Shape := ⟨1, ![1024]⟩
abbrev S32768x2048 : Shape := ⟨2, ![32768, 2048]⟩
abbrev S1x2048 : Shape := ⟨2, ![1, 2048]⟩
abbrev S_ : Shape := ⟨0, ![]⟩
abbrev S32768x1024 : Shape := ⟨2, ![32768, 1024]⟩
abbrev S1x1024x1024 : Shape := ⟨3, ![1, 1024, 1024]⟩
abbrev S32768 : Shape := ⟨1, ![32768]⟩
abbrev S32768x1 : Shape := ⟨2, ![32768, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4x8192x1024, .bf16⟩
  | .hbm, ⟨1, _⟩ => ⟨S4x8192x1024, .bf16⟩
  | .hbm, ⟨2, _⟩ => ⟨S32768x7168, .bf16⟩
  | .hbm, ⟨3, _⟩ => ⟨S4x8192x1024, .f32⟩
  | .hbm, ⟨4, _⟩ => ⟨S2048, .f32⟩
  | .hbm, ⟨5, _⟩ => ⟨S2x1024x1024, .f32⟩
  | .hbm, ⟨6, _⟩ => ⟨S1024x1024, .f32⟩
  | .hbm, ⟨7, _⟩ => ⟨S1024, .f32⟩
  | .hbm, ⟨8, _⟩ => ⟨S32768x2048, .bf16⟩
  | .hbm, ⟨9, _⟩ => ⟨S32768x2048, .f32⟩
  | .hbm, ⟨10, _⟩ => ⟨S1x2048, .f32⟩
  | .hbm, ⟨11, _⟩ => ⟨S32768x2048, .f32⟩
  | .hbm, ⟨12, _⟩ => ⟨S32768x2048, .f32⟩
  | .hbm, ⟨13, _⟩ => ⟨S32768x2048, .f32⟩
  | .hbm, ⟨14, _⟩ => ⟨S32768x2048, .f32⟩
  | .hbm, ⟨15, _⟩ => ⟨S_, .f32⟩
  | .hbm, ⟨16, _⟩ => ⟨S32768x2048, .f32⟩
  | .hbm, ⟨17, _⟩ => ⟨S32768x2048, .f32⟩
  | .hbm, ⟨18, _⟩ => ⟨S_, .f32⟩
  | .hbm, ⟨19, _⟩ => ⟨S32768x2048, .f32⟩
  | .hbm, ⟨20, _⟩ => ⟨S32768x2048, .f32⟩
  | .hbm, ⟨21, _⟩ => ⟨S4x8192x1024, .f32⟩
  | .hbm, ⟨22, _⟩ => ⟨S32768x1024, .f32⟩
  | .hbm, ⟨23, _⟩ => ⟨S1x1024x1024, .f32⟩
  | .hbm, ⟨24, _⟩ => ⟨S1024x1024, .f32⟩
  | .hbm, ⟨25, _⟩ => ⟨S32768x1024, .f32⟩
  | .hbm, ⟨26, _⟩ => ⟨S4x8192x1024, .f32⟩
  | .hbm, ⟨27, _⟩ => ⟨S32768x1024, .f32⟩
  | .hbm, ⟨28, _⟩ => ⟨S1x1024x1024, .f32⟩
  | .hbm, ⟨29, _⟩ => ⟨S1024x1024, .f32⟩
  | .hbm, ⟨30, _⟩ => ⟨S32768x1024, .f32⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S32768x1024, .f32⟩
  | .hbm, ⟨35, _⟩ => ⟨S32768x1024, .f32⟩
  | .hbm, ⟨36, _⟩ => ⟨S32768x1024, .f32⟩
  | .hbm, ⟨37, _⟩ => ⟨S32768x1024, .f32⟩
  | .hbm, ⟨38, _⟩ => ⟨S32768x1024, .f32⟩
  | .hbm, ⟨39, _⟩ => ⟨S_, .f32⟩
  | .hbm, ⟨40, _⟩ => ⟨S32768, .f32⟩
  | .hbm, ⟨41, _⟩ => ⟨S32768x1, .f32⟩
  | .hbm, ⟨42, _⟩ => ⟨S_, .f32⟩
  | .hbm, ⟨43, _⟩ => ⟨S32768x1, .f32⟩
  | .hbm, ⟨44, _⟩ => ⟨S32768x1, .f32⟩
  | .hbm, ⟨45, _⟩ => ⟨S_, .f32⟩
  | .hbm, ⟨46, _⟩ => ⟨S32768x1, .f32⟩
  | .hbm, ⟨47, _⟩ => ⟨S32768x1, .f32⟩
  | .hbm, ⟨48, _⟩ => ⟨S32768x1, .f32⟩
  | .hbm, ⟨49, _⟩ => ⟨S32768x1024, .f32⟩
  | .hbm, ⟨50, _⟩ => ⟨S32768x1024, .f32⟩
  | .hbm, ⟨51, _⟩ => ⟨S1x1024, .f32⟩
  | .hbm, ⟨52, _⟩ => ⟨S32768x1024, .f32⟩
  | .hbm, ⟨53, _⟩ => ⟨S32768x1024, .f32⟩
  | .hbm, ⟨54, _⟩ => ⟨S32768x1024, .f32⟩
  | _, _ => ⟨S4x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_1 : Ref sig .tc := ⟨.hbm, 39, rfl⟩
abbrev main_v29 : Ref sig .tc := ⟨.hbm, 40, rfl⟩
abbrev main_v30 : Ref sig .tc := ⟨.hbm, 41, rfl⟩
abbrev main_cst_2 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== Delta.lean ====
abbrev S4x8192x3072 : Shape := ⟨3, ![4, 8192, 3072]⟩
abbrev S4x8192x7168 : Shape := ⟨3, ![4, 8192, 7168]⟩
abbrev S4x8192x128 : Shape := ⟨3, ![4, 8192, 128]⟩
abbrev S8 : Shape := ⟨1, ![8]⟩
abbrev S128 : Shape := ⟨1, ![128]⟩
abbrev S_ : Shape := ⟨0, ![]⟩
abbrev S16 : Shape := ⟨1, ![16]⟩
abbrev S1x128 : Shape := ⟨2, ![1, 128]⟩
abbrev S4x8192x1024 : Shape := ⟨3, ![4, 8192, 1024]⟩
abbrev S2x128x1024 : Shape := ⟨3, ![2, 128, 1024]⟩
abbrev S2x128x128 : Shape := ⟨3, ![2, 128, 128]⟩
abbrev S16x128x128 : Shape := ⟨3, ![16, 128, 128]⟩
abbrev S1x128x1024 : Shape := ⟨3, ![1, 128, 1024]⟩
abbrev S128x1024 : Shape := ⟨2, ![128, 1024]⟩
abbrev S128x128 : Shape := ⟨2, ![128, 128]⟩
abbrev S1x128x128 : Shape := ⟨3, ![1, 128, 128]⟩
abbrev S64x128 : Shape := ⟨2, ![64, 128]⟩
abbrev S128x1 : Shape := ⟨2, ![128, 1]⟩
abbrev S1x1x128 : Shape := ⟨3, ![1, 1, 128]⟩
abbrev S128x256 : Shape := ⟨2, ![128, 256]⟩
abbrev S1x64x128 : Shape := ⟨3, ![1, 64, 128]⟩
abbrev S64x1 : Shape := ⟨2, ![64, 1]⟩

abbrev nBuf : Space → Nat
  | .hbm => 22
  | .vmem => 18
  | .smem => 0
  | _ => 0

abbrev bufTy : (tb : Table) → Fin (tcTables nBuf tb) → BufTy
  | .hbm, ⟨0, _⟩ => ⟨S4x8192x3072, .bf16⟩
  | .hbm, ⟨1, _⟩ => ⟨S4x8192x7168, .bf16⟩
  | .hbm, ⟨2, _⟩ => ⟨S4x8192x128, .f32⟩
  | .hbm, ⟨3, _⟩ => ⟨S8, .f32⟩
  | .hbm, ⟨4, _⟩ => ⟨S8, .f32⟩
  | .hbm, ⟨5, _⟩ => ⟨S128, .f32⟩
  | .hbm, ⟨6, _⟩ => ⟨S_, .f32⟩
  | .hbm, ⟨7, _⟩ => ⟨S8, .f32⟩
  | .hbm, ⟨8, _⟩ => ⟨S16, .f32⟩
  | .hbm, ⟨9, _⟩ => ⟨S_, .i32⟩
  | .hbm, ⟨10, _⟩ => ⟨S_, .f32⟩
  | .hbm, ⟨11, _⟩ => ⟨S128, .f32⟩
  | .hbm, ⟨12, _⟩ => ⟨S1x128, .f32⟩
  | .hbm, ⟨13, _⟩ => ⟨S_, .f32⟩
  | .hbm, ⟨14, _⟩ => ⟨S8, .f32⟩
  | .hbm, ⟨15, _⟩ => ⟨S16, .f32⟩
  | .hbm, ⟨16, _⟩ => ⟨S_, .i32⟩
  | .hbm, ⟨17, _⟩ => ⟨S_, .f32⟩
  | .hbm, ⟨18, _⟩ => ⟨S128, .f32⟩
  | .hbm, ⟨19, _⟩ => ⟨S1x128, .f32⟩
  | .hbm, ⟨20, _⟩ => ⟨S1x128, .f32⟩
  | .hbm, ⟨21, _⟩ => ⟨S4x8192x1024, .bf16⟩
  | .local _ .vmem, ⟨0, _⟩ => ⟨S2x128x1024, .bf16⟩
  | .local _ .vmem, ⟨1, _⟩ => ⟨S2x128x1024, .bf16⟩
  | .local _ .vmem, ⟨2, _⟩ => ⟨S2x128x1024, .bf16⟩
  | .local _ .vmem, ⟨3, _⟩ => ⟨S2x128x1024, .bf16⟩
  | .local _ .vmem, ⟨4, _⟩ => ⟨S2x128x1024, .bf16⟩
  | .local _ .vmem, ⟨5, _⟩ => ⟨S2x128x1024, .bf16⟩
  | .local _ .vmem, ⟨6, _⟩ => ⟨S2x128x1024, .bf16⟩
  | .local _ .vmem, ⟨7, _⟩ => ⟨S2x128x1024, .bf16⟩
  | .local _ .vmem, ⟨8, _⟩ => ⟨S2x128x128, .f32⟩
  | .local _ .vmem, ⟨9, _⟩ => ⟨S2x128x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S2x128x1024, .bf16⟩
  | .local _ .vmem, ⟨14, _⟩ => ⟨S2x128x1024, .bf16⟩
  | .local _ .vmem, ⟨15, _⟩ => ⟨S16x128x128, .f32⟩
  | .local _ .vmem, ⟨16, _⟩ => ⟨S16x128x128, .bf16⟩
  | .local _ .vmem, ⟨17, _⟩ => ⟨S2x128x128, .f32⟩
  | _, _ => ⟨S4x8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_c_1 : Ref sig .tc := ⟨.hbm, 16, rfl⟩
abbrev main_call1_v0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨3, ![2, 1, 64], ![false, false, false]⟩

def k0_off1 (i : grid0.Coords) (c0_i32_129 : BitVec 32) : Fin 3 → Nat :=
  let c0_368 : Index := 0#32
  let arg1 : BitVec 32 := BitVec.ofNat 32 (i 1).val
  let c8_i32_128 : BitVec 32 := 8#32
  let v307 : BitVec 32 := Scalar.muli arg1 c8_i32_128
  let v308 : BitVec 32 := Scalar.addi v307 c0_i32_129
  let c8_i32_367 : BitVec 32 := 8#32
  let v979 : BitVec 32 := Scalar.addi v308 c8_i32_367
  let v980 : Index := Scalar.indexCast v979
  let c0_369 : Index := 0#32
  ![0, v980.toNat, 0]
def k0_off2 (i : grid0.Coords) (c0_i32_144 : BitVec 32) : Fin 3 → Nat :=
  let c1_392 : Index := 1#32
  let arg1 : BitVec 32 := BitVec.ofNat 32 (i 1).val
  let c8_i32_143 : BitVec 32 := 8#32
  let v323 : BitVec 32 := Scalar.muli arg1 c8_i32_143
  let v324 : BitVec 32 := Scalar.addi v323 c0_i32_144
  let c8_i32_391 : BitVec 32 := 8#32
  let v1011 : BitVec 32 := Scalar.addi v324 c8_i32_391
  let v1012 : Index := Scalar.indexCast v1011
  let c0_393 : Index := 0#32
  ![1, v1012.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg1
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S2x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S2x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S2x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S2x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S2x128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Proof.InProjRun.lean ====
/- The input projection's run, point by point: the skeleton executed once with the first column tile's normalisation
   (case A) and once without it (case B), the pieces each store leaves being what the execution finds. -/
module

public import proofs.«01_k».proof.Proof.Gen.InProjIdeal.Frame
public import proofs.«01_k».proof.Proof.Gen.InProjIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.InProjIdeal.Hand

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point opens a row tile: its column tile is the first. -/
abbrev opens (i : grid0.Coords) : Prop := k0_cond1 i = 1#1

theorem opens_iff : ∀ t : Fin cfg0.N, opens (grid0.coords t) ↔ t.val % 4 = 0 :=
  (fun t => by
    have ht : t.val < 128 := Nat.lt_of_lt_of_eq t.isLt N_0
    have e0 : (grid0.coords t 0).val = t.val / 4 % 32 := Pipeline.Grid.coords_val t 0 (by decide) rfl
    have e1 : (grid0.coords t 1).val = t.val / 1 % 4 := Pipeline.Grid.coords_val t 1 (by decide) rfl
    simp only [opens, k0_cond1, e0, e1]
    word_cmp
   : ∀ t : Fin grid0.N, opens (grid0.coords t) ↔ t.val % 4 = 0)

set_option maxHeartbeats 2000000 in
/-- The body at a point that opens a row tile: both scratch buffers and the small projection are written, every output's pieces found by the execution. -/
def runA (c : Dev nD) (i : grid0.Coords) (arg2 : Memref sig .tc .vmem S1024x1024 .f32) (harg2 : arg2.IsWhole) (arg3 : Memref sig .tc .vmem S16x1024 .f32) (harg3 : arg3.IsWhole) (arg4 : Memref sig .tc .vmem S1x1024 .f32) (harg4 : arg4.IsWhole) (arg5 : Memref sig .tc .vmem S1024x768 .bf16) (harg5 : arg5.IsWhole) (arg6 : Memref sig .tc .vmem S1024x1792 .bf16) (harg6 : arg6.IsWhole) (arg7 : Memref sig .tc .vmem S1x1792 .f32) (harg7 : arg7.IsWhole) (arg8 : Memref sig .tc .vmem S1024x128 .bf16) (harg8 : arg8.IsWhole) (arg9 : Memref sig .tc .vmem S4x768 .f32) (harg9 : arg9.IsWhole) (arg10 : Memref sig .tc .vmem S1024x768 .bf16) (harg10 : arg10.IsWhole) (arg11 : Memref sig .tc .vmem S1024x1792 .bf16) (harg11 : arg11.IsWhole) (arg12 : Memref sig .tc .vmem S1024x128 .f32) (harg12 : arg12.IsWhole) (arg13 : Memref sig .tc .vmem S1024x1024 .bf16) (harg13 : arg13.IsWhole) (arg14 : Memref sig .tc .vmem S16x1024 .bf16) (harg14 : arg14.IsWhole) (hc0 : opens i)
    (x0 : Vec F S1024x1024 .f32) (x1 : Vec F S16x1024 .f32) (x2 : Vec F S1x1024 .f32) (x3 : Vec F S1024x768 .bf16) (x4 : Vec F S1024x1792 .bf16) (x5 : Vec F S1x1792 .f32) (x6 : Vec F S1024x128 .bf16) (x7 : Vec F S4x768 .f32) :
    Σ' (L8 : List (View.Piece (Elt F) S1024x768 .bf16)), Σ' (L9 : List (View.Piece (Elt F) S1024x1792 .bf16)), Σ' (L10 : List (View.Piece (Elt F) S1024x128 .f32)), Σ' (LS0 : List (View.Piece (Elt F) S1024x1024 .bf16)), { LS1 : List (View.Piece (Elt F) S16x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    simp only [cc0_in_proj_eq_skeleton]; unfold cc0_in_proj_skel
    simp only [k0_part2_eq_skeleton, k0_part1_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [HS0]; · iexists _; iexact HS0
    iexists _; iexact HS1

set_option maxHeartbeats 2000000 in
/-- The body at any other point: the scratch buffers are read and the small projection's buffer is left alone. -/
def runB (c : Dev nD) (i : grid0.Coords) (arg2 : Memref sig .tc .vmem S1024x1024 .f32) (harg2 : arg2.IsWhole) (arg3 : Memref sig .tc .vmem S16x1024 .f32) (harg3 : arg3.IsWhole) (arg4 : Memref sig .tc .vmem S1x1024 .f32) (harg4 : arg4.IsWhole) (arg5 : Memref sig .tc .vmem S1024x768 .bf16) (harg5 : arg5.IsWhole) (arg6 : Memref sig .tc .vmem S1024x1792 .bf16) (harg6 : arg6.IsWhole) (arg7 : Memref sig .tc .vmem S1x1792 .f32) (harg7 : arg7.IsWhole) (arg8 : Memref sig .tc .vmem S1024x128 .bf16) (harg8 : arg8.IsWhole) (arg9 : Memref sig .tc .vmem S4x768 .f32) (harg9 : arg9.IsWhole) (arg10 : Memref sig .tc .vmem S1024x768 .bf16) (harg10 : arg10.IsWhole) (arg11 : Memref sig .tc .vmem S1024x1792 .bf16) (harg11 : arg11.IsWhole) (arg12 : Memref sig .tc .vmem S1024x128 .f32) (harg12 : arg12.IsWhole) (arg13 : Memref sig .tc .vmem S1024x1024 .bf16) (harg13 : arg13.IsWhole) (arg14 : Memref sig .tc .vmem S16x1024 .bf16) (harg14 : arg14.IsWhole) (hc0 : ¬opens i)
    (x0 : Vec F S1024x1024 .f32) (x1 : Vec F S16x1024 .f32) (x2 : Vec F S1x1024 .f32) (x3 : Vec F S1024x768 .bf16) (x4 : Vec F S1024x1792 .bf16) (x5 : Vec F S1x1792 .f32) (x6 : Vec F S1024x128 .bf16) (x7 : Vec F S4x768 .f32) (y10 : Vec F S1024x128 .f32) (h : Vec F S1024x1024 .bf16) (hh : Vec F S16x1024 .bf16) :
    Σ' (L8 : List (View.Piece (Elt F) S1024x768 .bf16)), { L9 : List (View.Piece (Elt F) S1024x1792 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ owns (c : Thread nD τ) arg12 fullShare y10 ∗ owns (c : Thread nD τ) arg13 fullShare h ∗ owns (c : Thread nD τ) arg14 fullShare hh
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ owns (c : Thread nD τ) arg12 fullShare y10 ∗ owns (c : Thread nD τ) arg13 fullShare h ∗ owns (c : Thread nD τ) arg14 fullShare hh) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun E K => ?run⟩
  case run =>
    simp only [cc0_in_proj_eq_skeleton]; unfold cc0_in_proj_skel
    simp only [k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg12.eq_unread hf10; obtain rfl := harg13.eq_unread hfs0; obtain rfl := harg14.eq_unread hfs1
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]
    · iexists _; isplitr; · ipureintro; exact harg12.read_unread _
      iexact H10
    isplitl [HS0]
    · iexists _; isplitr; · ipureintro; exact harg13.read_unread _
      iexact HS0
    iexists _; isplitr; · ipureintro; exact harg14.read_unread _
    iexact HS1

end Cert.InProjIdeal.Hand

end
-- ==== Proof.InProjData.lean ====
/- What one point of the input projection leaves in its buffers, as functions of the blocks it reads: the normalised row
   tile, its halo, the small projection, and the two wide projections built from them. Both cases of the run leave the
   same functions. -/
module

public import proofs.«01_k».proof.Proof.InProjRun
import all proofs.«01_k».proof.Proof.InProjRun
public import Idealize.ShloMosaic.Lib.Pipeline.ValueKit.Acc
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.InProjIdeal.Hand

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The normalised row tile. -/
def hTile (x : Vec F S1024x1024 .f32) (nw : Vec F S1x1024 .f32) : Vec F S1024x1024 .bf16 :=
  k0_pay4 (View.ld x (Rect.unit ![0, 0] S1024x1024.size inb_S1024x1024_S1024x1024_0_0)) (View.ld nw (Rect.unit ![0, 0] S1x1024.size inb_S1x1024_S1x1024_0_0))

/-- The sixteen normalised rows before the tile, zero where the tile opens a sequence. -/
def haloTile (i : grid0.Coords) (xh : Vec F S16x1024 .f32) (nw : Vec F S1x1024 .f32) : Vec F S16x1024 .bf16 :=
  k0_pay9 i (k0_pay6 (View.ld xh (Rect.unit ![0, 0] S16x1024.size inb_S16x1024_S16x1024_0_0))) (k0_pay7 (View.ld nw (Rect.unit ![0, 0] S1x1024.size inb_S1x1024_S1x1024_0_0))) (k0_pay8 (View.ld xh (Rect.unit ![0, 0] S16x1024.size inb_S16x1024_S16x1024_0_0)))

/-- The small projection of the tile. -/
def smallTile (x : Vec F S1024x1024 .f32) (nw : Vec F S1x1024 .f32) (ws : Vec F S1024x128 .bf16) : Vec F S1024x128 .f32 :=
  k0_pay5 (View.ld x (Rect.unit ![0, 0] S1024x1024.size inb_S1024x1024_S1024x1024_0_0)) (View.ld nw (Rect.unit ![0, 0] S1x1024.size inb_S1x1024_S1x1024_0_0)) (View.ld ws (Rect.unit ![0, 0] S1024x128.size inb_S1024x128_S1024x128_0_0))

/-- The convolved columns, four row chunks, last first. -/
def convPieces (h : Vec F S1024x1024 .bf16) (hh : Vec F S16x1024 .bf16) (wc : Vec F S1024x768 .bf16) (cw : Vec F S4x768 .f32) :
    List (View.Piece (Elt F) S1024x768 .bf16) :=
  [⟨(Rect.unit ![768, 0] S256x768.size inb_S1024x768_S256x768_768_0), k0_pay2 (View.ld cw (Rect.unit ![0, 0] S4x768.size inb_S4x768_S4x768_0_0)) (k0_pay25 (k0_pay10 (View.ld wc (Rect.unit ![0, 0] S1024x768.size inb_S1024x768_S1024x768_0_0))) (View.ld h (Rect.unit ![512, 0] S256x1024.size inb_S1024x1024_S256x1024_512_0)))
      (k0_pay26 (k0_pay10 (View.ld wc (Rect.unit ![0, 0] S1024x768.size inb_S1024x768_S1024x768_0_0))) (View.ld h (Rect.unit ![768, 0] S256x1024.size inb_S1024x1024_S256x1024_768_0)))⟩,
   ⟨(Rect.unit ![512, 0] S256x768.size inb_S1024x768_S256x768_512_0), k0_pay24 (k0_pay10 (View.ld wc (Rect.unit ![0, 0] S1024x768.size inb_S1024x768_S1024x768_0_0))) (View.ld cw (Rect.unit ![0, 0] S4x768.size inb_S4x768_S4x768_0_0))
      (k0_pay19 (k0_pay10 (View.ld wc (Rect.unit ![0, 0] S1024x768.size inb_S1024x768_S1024x768_0_0))) (View.ld h (Rect.unit ![256, 0] S256x1024.size inb_S1024x1024_S256x1024_256_0))) (View.ld h (Rect.unit ![512, 0] S256x1024.size inb_S1024x1024_S256x1024_512_0))⟩,
   ⟨(Rect.unit ![256, 0] S256x768.size inb_S1024x768_S256x768_256_0), k0_pay21 (k0_pay10 (View.ld wc (Rect.unit ![0, 0] S1024x768.size inb_S1024x768_S1024x768_0_0))) (View.ld cw (Rect.unit ![0, 0] S4x768.size inb_S4x768_S4x768_0_0))
      (k0_pay12 (View.ld wc (Rect.unit ![0, 0] S1024x768.size inb_S1024x768_S1024x768_0_0)) (View.ld h (Rect.unit ![0, 0] S256x1024.size inb_S1024x1024_S256x1024_0_0))) (View.ld h (Rect.unit ![256, 0] S256x1024.size inb_S1024x1024_S256x1024_256_0))⟩,
   ⟨(Rect.unit ![0, 0] S256x768.size inb_S1024x768_S256x768_0_0), k0_pay18 (k0_pay15 (View.ld wc (Rect.unit ![0, 0] S1024x768.size inb_S1024x768_S1024x768_0_0)) (View.ld cw (Rect.unit ![0, 0] S4x768.size inb_S4x768_S4x768_0_0)) (View.ld hh (Rect.unit ![0, 0] S16x1024.size inb_S16x1024_S16x1024_0_0)) (View.ld h (Rect.unit ![0, 0] S256x1024.size inb_S1024x1024_S256x1024_0_0)))
      (k0_pay16 (View.ld wc (Rect.unit ![0, 0] S1024x768.size inb_S1024x768_S1024x768_0_0)) (View.ld hh (Rect.unit ![0, 0] S16x1024.size inb_S16x1024_S16x1024_0_0)) (View.ld h (Rect.unit ![0, 0] S256x1024.size inb_S1024x1024_S256x1024_0_0))) (k0_pay17 (View.ld cw (Rect.unit ![0, 0] S4x768.size inb_S4x768_S4x768_0_0)))⟩]

/-- The other columns, scaled, four row chunks, last first. -/
def restPieces (h : Vec F S1024x1024 .bf16) (wr : Vec F S1024x1792 .bf16) (cs : Vec F S1x1792 .f32) :
    List (View.Piece (Elt F) S1024x1792 .bf16) :=
  [⟨(Rect.unit ![768, 0] S256x1792.size inb_S1024x1792_S256x1792_768_0), k0_pay1 (k0_pay11 (View.ld wr (Rect.unit ![0, 0] S1024x1792.size inb_S1024x1792_S1024x1792_0_0))) (View.ld h (Rect.unit ![768, 0] S256x1024.size inb_S1024x1024_S256x1024_768_0)) (constant S256x1792 .f32 0x00000000#32) (View.ld cs (Rect.unit ![0, 0] S1x1792.size inb_S1x1792_S1x1792_0_0))⟩,
   ⟨(Rect.unit ![512, 0] S256x1792.size inb_S1024x1792_S256x1792_512_0), k0_pay23 (k0_pay11 (View.ld wr (Rect.unit ![0, 0] S1024x1792.size inb_S1024x1792_S1024x1792_0_0))) (View.ld h (Rect.unit ![512, 0] S256x1024.size inb_S1024x1024_S256x1024_512_0)) (View.ld cs (Rect.unit ![0, 0] S1x1792.size inb_S1x1792_S1x1792_0_0))⟩,
   ⟨(Rect.unit ![256, 0] S256x1792.size inb_S1024x1792_S256x1792_256_0), k0_pay20 (k0_pay11 (View.ld wr (Rect.unit ![0, 0] S1024x1792.size inb_S1024x1792_S1024x1792_0_0))) (View.ld h (Rect.unit ![256, 0] S256x1024.size inb_S1024x1024_S256x1024_256_0)) (View.ld cs (Rect.unit ![0, 0] S1x1792.size inb_S1x1792_S1x1792_0_0))⟩,
   ⟨(Rect.unit ![0, 0] S256x1792.size inb_S1024x1792_S256x1792_0_0), k0_pay13 (View.ld wr (Rect.unit ![0, 0] S1024x1792.size inb_S1024x1792_S1024x1792_0_0)) (View.ld h (Rect.unit ![0, 0] S256x1024.size inb_S1024x1024_S256x1024_0_0)) (View.ld cs (Rect.unit ![0, 0] S1x1792.size inb_S1x1792_S1x1792_0_0))⟩]

/-- What the point leaves in the convolved block, -/
def convTile (h : Vec F S1024x1024 .bf16) (hh : Vec F S16x1024 .bf16) (wc : Vec F S1024x768 .bf16) (cw : Vec F S4x768 .f32) :
    Vec F S1024x768 .bf16 := View.canon (convPieces h hh wc cw)

/-- and in the block of the other columns. -/
def restTile (h : Vec F S1024x1024 .bf16) (wr : Vec F S1024x1792 .bf16) (cs : Vec F S1x1792 .f32) :
    Vec F S1024x1792 .bf16 := View.canon (restPieces h wr cs)

/-- A load from a whole memref at given contents. -/
theorem load_unread {s : Shape} {e : EltTy} {sp : Space} {M : Memref sig .tc sp s e} (hM : M.IsWhole) (x : s.Idx → Elt F e) (r : Rect s) :
    View.readAt (Elt F) M.view r.toLoadRect (hM.unread x) = View.ld x r := by
  rw [View.readAt_eq_ld, hM.read_unread]

/-- A load after one store of the whole buffer. -/
theorem load_stored {n m : ℕ} {e : EltTy} {sp : Space} (v : View sig .tc sp ⟨2, ![n, m]⟩ e)
    (inb : ∀ a : Fin 2, (![0, 0] : Fin 2 → ℕ) a + (![n, m] : Fin 2 → ℕ) a ≤ (![n, m] : Fin 2 → ℕ) a)
    (w : Shape.Idx ⟨2, ![n, m]⟩ → Elt F e) (r : Rect ⟨2, ![n, m]⟩) :
    v.readCov [⟨Rect.unit (s := ⟨2, ![n, m]⟩) ![0, 0] ![n, m] inb, w⟩] r.toLoadRect = View.ld w r := by
  rw [View.readCov_eq_canon']
  funext j
  rw [View.canon_cons_unit_lit' (S := ⟨2, ![n, m]⟩) _ _ _ (fun a => by match a with | ⟨0, _⟩ => rfl | ⟨1, _⟩ => rfl)]

section Pieces

variable (c : Dev nD) (i : grid0.Coords) (arg2 : Memref sig .tc .vmem S1024x1024 .f32) (harg2 : arg2.IsWhole) (arg3 : Memref sig .tc .vmem S16x1024 .f32) (harg3 : arg3.IsWhole) (arg4 : Memref sig .tc .vmem S1x1024 .f32) (harg4 : arg4.IsWhole) (arg5 : Memref sig .tc .vmem S1024x768 .bf16) (harg5 : arg5.IsWhole) (arg6 : Memref sig .tc .vmem S1024x1792 .bf16) (harg6 : arg6.IsWhole) (arg7 : Memref sig .tc .vmem S1x1792 .f32) (harg7 : arg7.IsWhole) (arg8 : Memref sig .tc .vmem S1024x128 .bf16) (harg8 : arg8.IsWhole) (arg9 : Memref sig .tc .vmem S4x768 .f32) (harg9 : arg9.IsWhole) (arg10 : Memref sig .tc .vmem S1024x768 .bf16) (harg10 : arg10.IsWhole) (arg11 : Memref sig .tc .vmem S1024x1792 .bf16) (harg11 : arg11.IsWhole) (arg12 : Memref sig .tc .vmem S1024x128 .f32) (harg12 : arg12.IsWhole) (arg13 : Memref sig .tc .vmem S1024x1024 .bf16) (harg13 : arg13.IsWhole) (arg14 : Memref sig .tc .vmem S16x1024 .bf16) (harg14 : arg14.IsWhole)
    (x0 : Vec F S1024x1024 .f32) (x1 : Vec F S16x1024 .f32) (x2 : Vec F S1x1024 .f32) (x3 : Vec F S1024x768 .bf16) (x4 : Vec F S1024x1792 .bf16) (x5 : Vec F S1x1792 .f32) (x6 : Vec F S1024x128 .bf16) (x7 : Vec F S4x768 .f32)

theorem runA_conv (hc0 : opens i) :
    (runA c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).1 = convPieces (hTile x0 x2) (haloTile i x1 x2) x3 x7 := by
  unfold runA; dsimp only
  simp only [runA.sl.r_1, runA.sl.r_2, runA.sl.r_3, runA.sl.r_4, runA.sl.r_5, runA.sl.r_6, runA.sl.r_7, runA.sl.r_8, runA.sl.r_9, runA.sl.r_10, runA.sl.r_11, runA.sl.r_12, runA.sl.r_13, runA.sl.r, runA.sl.v10, runA.sl.v47, runA.sl.v84, runA.sl.v121, runA.sl.v8, runA.sl.HS0_1, runA.sl.HS1_1, runA.sl.cst_41, load_unread]
  simp only [load_stored]
  rfl

theorem runA_rest (hc0 : opens i) :
    (runA c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.1 = restPieces (hTile x0 x2) x4 x5 := by
  unfold runA; dsimp only
  simp only [runA.sl.r_1, runA.sl.r_2, runA.sl.r_3, runA.sl.r_4, runA.sl.r_5, runA.sl.r_6, runA.sl.r_7, runA.sl.r_8, runA.sl.r_9, runA.sl.r_10, runA.sl.r_11, runA.sl.r_12, runA.sl.r_13, runA.sl.r, runA.sl.v10, runA.sl.v47, runA.sl.v84, runA.sl.v121, runA.sl.v8, runA.sl.HS0_1, runA.sl.HS1_1, runA.sl.cst_41, load_unread]
  simp only [load_stored]
  rfl

theorem runA_small (hc0 : opens i) :
    (runA c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.1 = [⟨(Rect.unit ![0, 0] S1024x128.size inb_S1024x128_S1024x128_0_0), smallTile x0 x2 x6⟩] := by
  unfold runA; dsimp only
  simp only [runA.sl.r_1, runA.sl.r_2, runA.sl.r_3, runA.sl.r_4, runA.sl.r_5, runA.sl.r_6, runA.sl.r_7, runA.sl.r_8, runA.sl.r_9, runA.sl.r_10, runA.sl.r_11, runA.sl.r_12, runA.sl.r_13, runA.sl.r, runA.sl.v10, runA.sl.v47, runA.sl.v84, runA.sl.v121, runA.sl.v8, runA.sl.HS0_1, runA.sl.HS1_1, runA.sl.cst_41, load_unread]
  rfl

theorem runA_h (hc0 : opens i) :
    (runA c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.2.1 = [⟨(Rect.unit ![0, 0] S1024x1024.size inb_S1024x1024_S1024x1024_0_0), (hTile x0 x2)⟩] := by
  unfold runA; dsimp only
  simp only [runA.sl.r_1, runA.sl.r_2, runA.sl.r_3, runA.sl.r_4, runA.sl.r_5, runA.sl.r_6, runA.sl.r_7, runA.sl.r_8, runA.sl.r_9, runA.sl.r_10, runA.sl.r_11, runA.sl.r_12, runA.sl.r_13, runA.sl.r, runA.sl.v10, runA.sl.v47, runA.sl.v84, runA.sl.v121, runA.sl.v8, runA.sl.HS0_1, runA.sl.HS1_1, runA.sl.cst_41, load_unread]
  rfl

theorem runA_halo (hc0 : opens i) :
    (runA c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.2.2.1 = [⟨(Rect.unit ![0, 0] S16x1024.size inb_S16x1024_S16x1024_0_0), (haloTile i x1 x2)⟩] := by
  unfold runA; dsimp only
  simp only [runA.sl.r_1, runA.sl.r_2, runA.sl.r_3, runA.sl.r_4, runA.sl.r_5, runA.sl.r_6, runA.sl.r_7, runA.sl.r_8, runA.sl.r_9, runA.sl.r_10, runA.sl.r_11, runA.sl.r_12, runA.sl.r_13, runA.sl.r, runA.sl.v10, runA.sl.v47, runA.sl.v84, runA.sl.v121, runA.sl.v8, runA.sl.HS0_1, runA.sl.HS1_1, runA.sl.cst_41, load_unread]
  rfl

theorem runB_conv (hc0 : ¬opens i) (y10 : Vec F S1024x128 .f32) (h : Vec F S1024x1024 .bf16) (hh : Vec F S16x1024 .bf16) :
    (runB c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 y10 h hh).1 = convPieces h hh x3 x7 := by
  unfold runB; dsimp only
  simp only [runB.sl.r_1, runB.sl.r_2, runB.sl.r_3, runB.sl.r_4, runB.sl.r_5, runB.sl.r_6, runB.sl.r_7, runB.sl.r_8, runB.sl.r_9, runB.sl.r_10, runB.sl.r_11, runB.sl.r, runB.sl.cst_41, load_unread]
  rfl

theorem runB_rest (hc0 : ¬opens i) (y10 : Vec F S1024x128 .f32) (h : Vec F S1024x1024 .bf16) (hh : Vec F S16x1024 .bf16) :
    (runB c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 y10 h hh).2.1 = restPieces h x4 x5 := by
  unfold runB; dsimp only
  simp only [runB.sl.r_1, runB.sl.r_2, runB.sl.r_3, runB.sl.r_4, runB.sl.r_5, runB.sl.r_6, runB.sl.r_7, runB.sl.r_8, runB.sl.r_9, runB.sl.r_10, runB.sl.r_11, runB.sl.r, runB.sl.cst_41, load_unread]
  rfl

end Pieces

end Cert.InProjIdeal.Hand

end
-- ==== Proof.InProjInv.lean ====
/- The input projection's proof data: every buffer's contents after a point is a closed form of the blocks at the point
   that opened the row tile and of the point's own column blocks; the small projection's buffer is kept through the
   tile's other points, so its write-back at the last of them writes what the first left. -/
module

public import proofs.«01_k».proof.Proof.InProjData
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.InProjIdeal.Hand

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev ms0_0 (t : Fin cfg0.N) : Memref sig .tc .vmem S1024x1024 .f32 := win0_0.stage (cfg0.slots t 0)
abbrev ms0_1 (t : Fin cfg0.N) : Memref sig .tc .vmem S16x1024 .f32 := win0_1.stage (cfg0.slots t 1)
abbrev ms0_2 (t : Fin cfg0.N) : Memref sig .tc .vmem S1x1024 .f32 := win0_2.stage (cfg0.slots t 2)
abbrev ms0_3 (t : Fin cfg0.N) : Memref sig .tc .vmem S1024x768 .bf16 := win0_3.stage (cfg0.slots t 3)
abbrev ms0_4 (t : Fin cfg0.N) : Memref sig .tc .vmem S1024x1792 .bf16 := win0_4.stage (cfg0.slots t 4)
abbrev ms0_5 (t : Fin cfg0.N) : Memref sig .tc .vmem S1x1792 .f32 := win0_5.stage (cfg0.slots t 5)
abbrev ms0_6 (t : Fin cfg0.N) : Memref sig .tc .vmem S1024x128 .bf16 := win0_6.stage (cfg0.slots t 6)
abbrev ms0_7 (t : Fin cfg0.N) : Memref sig .tc .vmem S4x768 .f32 := win0_7.stage (cfg0.slots t 7)
abbrev ms0_8 (t : Fin cfg0.N) : Memref sig .tc .vmem S1024x768 .bf16 := win0_8.stage (cfg0.slots t 8)
abbrev ms0_9 (t : Fin cfg0.N) : Memref sig .tc .vmem S1024x1792 .bf16 := win0_9.stage (cfg0.slots t 9)
abbrev ms0_10 (t : Fin cfg0.N) : Memref sig .tc .vmem S1024x128 .f32 := win0_10.stage (cfg0.slots t 10)
/-- The scratch buffers. -/
abbrev scM0_0 : Memref sig .tc .vmem S1024x1024 .bf16 := Memref.whole cc0_scratch0
abbrev scM0_1 : Memref sig .tc .vmem S16x1024 .bf16 := Memref.whole cc0_scratch1

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The point that opened `t`'s row tile. -/
def base (t : Fin cfg0.N) : Fin cfg0.N := ⟨4 * (t.val / 4), lt_of_le_of_lt (Nat.mul_div_le _ _) t.isLt⟩

theorem base_open (t : Fin cfg0.N) (h : t.val % 4 = 0) : base t = t := Fin.ext (by simp only [base]; omega)

theorem base_prev (t : Fin cfg0.N) (h : ¬t.val % 4 = 0) :
    base ⟨t.val - 1, Nat.lt_of_le_of_lt (Nat.sub_le _ _) t.isLt⟩ = base t := Fin.ext (by simp only [base]; omega)

/-- The normalised row tile, its halo and its small projection at point `t`. -/
def hAt (c : Dev nD) (t : Fin cfg0.N) : Vec F S1024x1024 .bf16 := hTile (iblk m c 0 (base t)) (iblk m c 2 (base t))
def haloAt (c : Dev nD) (t : Fin cfg0.N) : Vec F S16x1024 .bf16 := haloTile (grid0.coords (base t)) (iblk m c 1 (base t)) (iblk m c 2 (base t))
def smallAt (c : Dev nD) (t : Fin cfg0.N) : Vec F S1024x128 .f32 := smallTile (iblk m c 0 (base t)) (iblk m c 2 (base t)) (iblk m c 6 (base t))

/-- The invariant before position `n`: the scratch buffers at what the point before left. -/
def PhiS (c : Dev nD) : (n : ℕ) → n ≤ cfg0.N → sProp 𝕄
  | 0, _ => Pipeline.ΦA spec0 c
  | n + 1, hn => iprop(iprop(owns (c : Thread nD τ) scM0_0 fullShare (hAt m c ⟨n, hn⟩)
      ∗ owns (c : Thread nD τ) scM0_1 fullShare (haloAt m c ⟨n, hn⟩)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (t : Fin cfg0.N) :
    PhiS m c (t.val + 1) t.isLt = iprop(iprop(owns (c : Thread nD τ) scM0_0 fullShare (hAt m c t)
      ∗ owns (c : Thread nD τ) scM0_1 fullShare (haloAt m c t)) ∗ (∃ r, prngReg c r)) := rfl

theorem PhiS_pos (c : Dev nD) (n : ℕ) (h : n ≤ cfg0.N) (hz : n ≠ 0) :
    PhiS m c n h = iprop(iprop(owns (c : Thread nD τ) scM0_0 fullShare (hAt m c ⟨n - 1, by omega⟩)
      ∗ owns (c : Thread nD τ) scM0_1 fullShare (haloAt m c ⟨n - 1, by omega⟩)) ∗ (∃ r, prngReg c r)) := by
  cases n with
  | zero => exact absurd rfl hz
  | succ n => rfl

/-- The proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => convTile (hAt m c t) (haloAt m c t) (iblk m c 3 t) (iblk m c 7 t)
    | ⟨9, _⟩ => restTile (hAt m c t) (iblk m c 4 t) (iblk m c 5 t)
    | ⟨10, _⟩ => smallAt m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) :
    (dats m 0 c).after 8 t = convTile (hAt m c t) (haloAt m c t) (iblk m c 3 t) (iblk m c 7 t) := by dsimp only [dats]
theorem after0_9 (c : Dev nD) (t : Fin cfg0.N) :
    (dats m 0 c).after 9 t = restTile (hAt m c t) (iblk m c 4 t) (iblk m c 5 t) := by dsimp only [dats]
theorem after0_10 (c : Dev nD) (t : Fin cfg0.N) : (dats m 0 c).after 10 t = smallAt m c t := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d
theorem before0_7 (c : Dev nD) (t : Fin cfg0.N) (d) : (dats m 0 c).before 7 t d = iblk m c 7 t := before0_7_of m (dats m 0 c) (A_eq m c 7) (after0_7 m c) t d

/-- The small projection's window is idle past the tile's first point. -/
theorem idle10_eq (t : Fin cfg0.N) : cfg0.idle 10 (cfg0.grid.coords t) = !(k0_cond1 (grid0.coords t) == 1#1) := rfl

theorem idle10_open (t : Fin cfg0.N) (h : t.val % 4 = 0) : cfg0.idle 10 (cfg0.grid.coords t) = false := by
  rw [idle10_eq, beq_iff_eq.mpr ((opens_iff t).mpr h)]; rfl

theorem idle10_rest (t : Fin cfg0.N) (h : ¬t.val % 4 = 0) : cfg0.idle 10 (cfg0.grid.coords t) = true := by
  rw [idle10_eq, beq_eq_false_iff_ne.mpr fun e => h ((opens_iff t).mp e)]; rfl

theorem flush10_false (t : Fin cfg0.N) (h : ¬t.val % 4 = 3) : (cfg0.win 10).flush t = false :=
  Bool.eq_false_iff.mpr fun e => h ((flush0_10 t).mp e)

/-- Past the tile's first point the small projection's buffer still holds what that point left. -/
theorem before0_10 (c : Dev nD) (d) : ∀ (n : ℕ) (hn : n < cfg0.N), ¬n % 4 = 0 →
    (dats m 0 c).before 10 ⟨n, hn⟩ d = smallAt m c ⟨n, hn⟩ := by
  intro n
  induction n with
  | zero => intro _ h; exact absurd rfl h
  | succ n ih =>
    intro hn h
    have hp : n < cfg0.N := Nat.lt_of_succ_lt hn
    have hb : base (⟨n, hp⟩ : Fin cfg0.N) = base ⟨n + 1, hn⟩ := base_prev ⟨n + 1, hn⟩ h
    have hfl : (cfg0.win 10).flush (⟨n, hp⟩ : Fin cfg0.N) = false := flush10_false _ (fun e => by simp only at e; omega)
    rw [(dats m 0 c).before_of_pos 10 ⟨n + 1, hn⟩ (Nat.succ_ne_zero n) ((cfg0.win 10).fetch_out rfl _)]
    simp only [Nat.add_sub_cancel]
    rw [hfl, if_neg Bool.false_ne_true]
    unfold Dat.left
    by_cases h0 : n % 4 = 0
    · rw [idle10_open ⟨n, hp⟩ h0]
      unfold Dat.kept
      rw [Pipeline.fill_of_clip_none 10 _ (fun _ => rfl) d ((dats m 0 c).after 10 _), Window.fill_cut, after0_10]
      unfold smallAt; rw [hb]
    · rw [idle10_rest ⟨n, hp⟩ h0, ih hp h0]
      unfold smallAt; rw [hb]

theorem hAt_prev (c : Dev nD) (t : Fin cfg0.N) (h : ¬t.val % 4 = 0) :
    hAt m c ⟨t.val - 1, Nat.lt_of_le_of_lt (Nat.sub_le _ _) t.isLt⟩ = hAt m c t := by unfold hAt; rw [base_prev t h]

theorem haloAt_prev (c : Dev nD) (t : Fin cfg0.N) (h : ¬t.val % 4 = 0) :
    haloAt m c ⟨t.val - 1, Nat.lt_of_le_of_lt (Nat.sub_le _ _) t.isLt⟩ = haloAt m c t := by unfold haloAt; rw [base_prev t h]

/-! ## What the stores leave covers each block -/

theorem conv_cover (h : Vec F S1024x1024 .bf16) (hh : Vec F S16x1024 .bf16) (wc : Vec F S1024x768 .bf16) (cw : Vec F S4x768 .f32)
    (y : S1024x768.Idx) : ∃ p ∈ convPieces h hh wc cw, y ∈ p.1.set :=
  View.cover_of_tiledL (convPieces h hh wc cw) S256x768.size (by sl_kernel_rfl) y

theorem rest_cover (h : Vec F S1024x1024 .bf16) (wr : Vec F S1024x1792 .bf16) (cs : Vec F S1x1792 .f32)
    (y : S1024x1792.Idx) : ∃ p ∈ restPieces h wr cs, y ∈ p.1.set :=
  View.cover_of_tiledL (restPieces h wr cs) S256x1792.size (by sl_kernel_rfl) y

/-- One store of the whole buffer leaves its payload. -/
theorem read_stored {n k : ℕ} {e : EltTy} {sp : Space} (v : View sig .tc sp ⟨2, ![n, k]⟩ e) (f : v.ty.Contents (Elt F))
    (inb : ∀ a : Fin 2, (![0, 0] : Fin 2 → ℕ) a + (![n, k] : Fin 2 → ℕ) a ≤ (![n, k] : Fin 2 → ℕ) a)
    (w : Shape.Idx ⟨2, ![n, k]⟩ → Elt F e) :
    v.read (Elt F) (v.writes (Elt F) f [⟨Rect.unit (s := ⟨2, ![n, k]⟩) ![0, 0] ![n, k] inb, w⟩]) = w := by
  have hz : ∀ a : Fin 2, (![0, 0] : Fin 2 → ℕ) a = 0 := fun a => by match a with | ⟨0, _⟩ => rfl | ⟨1, _⟩ => rfl
  rw [View.read_writes_eq_canon _ _ _ (fun y => ⟨_, List.mem_singleton.mpr rfl, by
    rw [Rect.mem_set_unit]; intro a; rw [hz a]; exact ⟨Nat.zero_le _, by rw [Nat.zero_add]; exact (y a).isLt⟩⟩),
    View.canon_cons_unit_lit' (S := ⟨2, ![n, k]⟩) _ _ _ hz]

/-- Any position's invariant holds the scratch buffers at something. -/
theorem PhiS_any (c : Dev nD) (n : ℕ) (h : n ≤ cfg0.N) : PhiS m c n h ⊢ Pipeline.ΦA spec0 c := by
  cases n with
  | zero => exact .rfl
  | succ n =>
    rw [PhiA0_eq]
    show iprop(iprop(_ ∗ _) ∗ _) ⊢ _
    iintro ⟨⟨HS0, HS1⟩, Hg⟩
    isplitl [HS0 HS1]
    · isplitl [HS0]
      · iexists _; iexact HS0
      iexists _; iexact HS1
    iexact Hg

/-- What the obligation asks of the small projection's buffer: what it held at an idle point that does not write it back. -/
def smallPost (c : Dev nD) (t : Fin cfg0.N) : sProp 𝕄 :=
  match cfg0.idle 10 (cfg0.grid.coords t) with
  | true =>
    match (cfg0.win 10).flush t with
    | false => iprop(∃ d, owns (c : Thread nD τ) (ms0_10 t) fullShare ((dats m 0 c).before 10 t d))
    | true => owns (c : Thread nD τ) (ms0_10 t) fullShare ((dats m 0 c).after 10 t)
  | false => owns (c : Thread nD τ) (ms0_10 t) fullShare ((dats m 0 c).after 10 t)

theorem small_post (c : Dev nD) (t : Fin cfg0.N) : owns (c : Thread nD τ) (ms0_10 t) fullShare (smallAt m c t) ⊢ smallPost m c t := by
  unfold smallPost
  by_cases h : t.val % 4 = 0
  · rw [idle10_open t h, after0_10]
  · rw [idle10_rest t h]
    by_cases hf : t.val % 4 = 3
    · rw [(flush0_10 t).mpr hf, after0_10]
    · rw [flush10_false t hf]
      simp only [before0_10 m c _ t.val t.isLt h]
      iintro H
      iexists (fun _ => default)
      iexact H

end Cert.InProjIdeal.Hand

end
-- ==== Proof.InProjFrame.lean ====
/- The input projection's body meets its obligation at every point, and the frame, for any values. -/
module

public import proofs.«01_k».proof.Proof.InProjInv
public import Idealize.ShloMosaic.Lib.Claim
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.InProjIdeal.Hand

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ smallPost m c t)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7, after0_8, after0_9]
  rw [show (dats m 0 c).Φ t.succ = PhiS m c (t.val + 1) t.isLt from rfl, PhiS_succ]
  by_cases h0 : t.val % 4 = 0
  · rw [PhiS_castSucc m c t]
    refine (sep_mono (PhiS_any m c t.val _) .rfl).trans ?_
    rw [PhiA0_eq]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((runA c (grid0.coords t) _ _ _ _ _ _ _ _ _ _ _ _ _ _ _ _ _ _ _ _ _ _ _ _ _ _ ((opens_iff t).mpr h0) (iblk m c 0 t) (iblk m c 1 t) (iblk m c 2 t) (iblk m c 3 t) (iblk m c 4 t) (iblk m c 5 t) (iblk m c 6 t) (iblk m c 7 t)).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [HS0]; · iexact HS0
    isplitl [HS1]; · iexact HS1
    iintro ⟨H0, H1, H2, H3, H4, H5, H6, H7, ⟨%e8, H8⟩, ⟨%e9, H9⟩, ⟨%e10, H10⟩, ⟨%es0, HS0⟩, ⟨%es1, HS1⟩⟩
    isplitl [HS0 HS1 Hg]
    · isplitl [HS0 HS1]
      · isplitl [HS0]
        · unfold owns; iexists _; isplitr
          swap; · iexact HS0
          ipureintro; rw [runA_h, hAt, base_open t h0]; exact read_stored _ _ _ _
        unfold owns; iexists _; isplitr
        swap; · iexact HS1
        ipureintro; rw [runA_halo, haloAt, base_open t h0]; exact read_stored _ _ _ _
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; rw [runA_conv, hAt, haloAt, base_open t h0]; exact View.read_writes_eq_canon _ _ _ (conv_cover _ _ _ _)
    isplitl [H9]
    · unfold owns; iexists _; isplitr
      swap; · iexact H9
      ipureintro; rw [runA_rest, hAt, base_open t h0]; exact View.read_writes_eq_canon _ _ _ (rest_cover _ _ _)
    iapply (small_post m c t)
    unfold owns; iexists _; isplitr
    swap; · iexact H10
    ipureintro; rw [runA_small, smallAt, base_open t h0]; exact read_stored _ _ _ _
  · have hz : t.val ≠ 0 := fun e => h0 (by rw [e])
    simp only [before0_10 m c _ t.val t.isLt h0]
    rw [PhiS_castSucc m c t, PhiS_pos m c _ _ hz, hAt_prev m c t h0, haloAt_prev m c t h0]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((runB c (grid0.coords t) _ _ _ _ _ _ _ _ _ _ _ _ _ _ _ _ _ _ _ _ _ _ _ _ _ _ (fun h => h0 ((opens_iff t).mp h)) (iblk m c 0 t) (iblk m c 1 t) (iblk m c 2 t) (iblk m c 3 t) (iblk m c 4 t) (iblk m c 5 t) (iblk m c 6 t) (iblk m c 7 t) _ _ _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexact H10
    isplitl [HS0]; · iexact HS0
    isplitl [HS1]; · iexact HS1
    iintro ⟨H0, H1, H2, H3, H4, H5, H6, H7, ⟨%e8, H8⟩, ⟨%e9, H9⟩, H10, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; rw [runB_conv]; exact View.read_writes_eq_canon _ _ _ (conv_cover _ _ _ _)
    isplitl [H9]
    · unfold owns; iexists _; isplitr
      swap; · iexact H9
      ipureintro; rw [runB_rest]; exact View.read_writes_eq_canon _ _ _ (rest_cover _ _ _)
    iapply (small_post m c t)
    iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl]
  exact PhiS_any m c _ _

set_option backward.isDefEq.respectTransparency.types false in
/-- The launch: the arrays end at what the proof data says, and every semaphore counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- The frame, for any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiescent m ρ))

end Cert.InProjIdeal.Hand

end
-- ==== Proof.InProjTwin.lean ====
/- The printed program and the idealized one are the same text: their body tables and their mains are equal, so the
   frame of the one is the frame of the other. -/
module

public import proofs.«01_k».proof.Proof.InProjFrame
public import proofs.«01_k».proof.Proof.Gen.InProj.Launch

@[expose] public section

noncomputable section

namespace Cert.InProj.Hand

open Idealize.ShloMosaic Idealize.ShloMosaic.TcCoe Idealize.ShloMosaic.Tactic Idealize.SL.Sem

variable {F : FTy → Type} [FloatOps F]

theorem defs₀_eq : Cert.InProj.defs₀ (F := F) = Cert.InProjIdeal.defs₀ (F := F) := by
  unfold Cert.InProj.defs₀ Cert.InProjIdeal.defs₀
  refine congrArg Defs.onTc ?_
  funext l a
  match l, a with
  | 0, (t, s) => rfl
  | ⟨_ + 1, h⟩, _ => exact absurd h (Nat.not_lt.2 (Nat.le_add_left _ _))

theorem defs_eq : Cert.InProj.defs (F := F) = Cert.InProjIdeal.defs (F := F) := by
  unfold Cert.InProj.defs Cert.InProjIdeal.defs
  rw [defs₀_eq]
  rfl

theorem main_eq : Cert.InProj.main (F := F) = Cert.InProjIdeal.main (F := F) := rfl

open Cert.InProj

/-- The frame, for any values. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  rw [defs_eq, main_eq]
  exact Cert.InProjIdeal.Hand.frame (F := F) m ρ

end Cert.InProj.Hand

end
-- ==== Proof.MergeRow.lean ====
module

public import proofs.«01_k».proof.Proof.Gen.MergeIdeal.Value
public import proofs.«01_k».proof.Proof.Gen.MergeRefIdeal.Read
public import proofs.«01_k».proof.Proof.Gen.MergeRefIdeal.Run
public import Idealize.ShloMosaic.Lib.Pointwise
public import Idealize.ShloMosaic.Lib.ValueIdx
public import Idealize.ShloMosaic.Lib.Pipeline.ValueKit.Acc

/-! # One entry of the merge, from both sides

The merge multiplies the two mixers' rows by their branch weights, gates each product by the logistic function of a
row of `rest` plus a bias, adds the two, multiplies by the output weight, normalises the row and adds the residual.
`entry` states one entry of that over the rows it reads. The kernel's body at a row of its block and the reference at a
row of the whole array are both read as `entry`; the kernel spells the logistic function through the hyperbolic tangent.
-/

@[expose] public section

noncomputable section
open Idealize.ShloMosaic Idealize.ShloMosaic.Tactic
namespace Cert.Proof.Merge

/-- The logistic function as the reference spells it. -/
def gate (x : EReal) : EReal := Ideal.div 1 (1 + Ideal.exp (-x))

/-- The word of one half. -/
theorem half_eq : Ideal.ofBits .f32 1056964608#32 = ((1 / 2 : ℝ) : EReal) := by
  simp [Ideal.ofBits, Ideal.ieee, -EReal.coe_mul]
  norm_num

/-- The kernel's spelling of the logistic function, through the hyperbolic tangent of the half, at every extended real. -/
theorem gate_tanh (x : EReal) :
    Ideal.ofBits .f32 1056964608#32 * Ideal.tanh (Ideal.ofBits .f32 1056964608#32 * x) + Ideal.ofBits .f32 1056964608#32
      = gate x := by
  rw [half_eq, gate]
  have h2 : (0 : ℝ) < 1 / 2 := by norm_num
  induction x with
  | bot =>
    rw [EReal.coe_mul_bot_of_pos h2, Ideal.tanh_bot, EReal.neg_bot, Ideal.exp_top, EReal.add_top_of_ne_bot (by decide), Ideal.div,
      if_neg (by decide), EReal.inv_top, mul_zero]
    rw [mul_neg, mul_one, ← EReal.coe_neg, ← EReal.coe_add]
    norm_num
  | top =>
    rw [EReal.coe_mul_top_of_pos h2, Ideal.tanh_top, EReal.neg_top, Ideal.exp_bot, add_zero, ← EReal.coe_one,
      Ideal.div_coe one_ne_zero]
    norm_cast
    norm_num
  | coe x =>
    have hp : (1 : ℝ) + Real.exp (-x) ≠ 0 := by positivity
    rw [← EReal.coe_neg, Ideal.exp_coe, ← EReal.coe_one, ← EReal.coe_add, Ideal.div_coe hp, ← EReal.coe_mul, ← EReal.coe_mul,
      Ideal.tanh_coe, ← EReal.coe_mul, ← EReal.coe_add]
    congr 1
    have e1 : Real.exp (-x) = Real.exp (-(1 / 2 * x)) * Real.exp (-(1 / 2 * x)) := by rw [← Real.exp_add]; congr 1; ring
    have e2 : Real.exp (1 / 2 * x) * Real.exp (-(1 / 2 * x)) = 1 := by rw [← Real.exp_add]; simp
    rw [Real.tanh_eq_sinh_div_cosh, Real.sinh_eq, Real.cosh_eq, e1]
    set a := Real.exp (1 / 2 * x)
    set b := Real.exp (-(1 / 2 * x))
    have ha : 0 < a := Real.exp_pos _
    have hb : 0 < b := Real.exp_pos _
    field_simp
    nlinarith [e2]

/-- The gated sum of the two branches at feature `d`. -/
def mix (ya yb g0 g1 : Fin 1024 → EReal) (w0 w1 : Fin 1024 → Fin 1024 → EReal) (d : Fin 1024) : EReal :=
  gate (g0 d) * (∑ k, ya k * w0 k d) + gate (g1 d) * (∑ k, yb k * w1 k d)

/-- The output projection of a gated row `s`. -/
def proj (s : Fin 1024 → EReal) (wo : Fin 1024 → Fin 1024 → EReal) (l : Fin 1024) : EReal := ∑ d, s d * wo d l

/-- The residual plus the normalised row `o`, at feature `l`. -/
def normed (o : Fin 1024 → EReal) (x nw : EReal) (l : Fin 1024) : EReal :=
  x + o l * Ideal.rsqrt (Ideal.div (∑ d, o d * o d) (Ideal.ofBits .f32 1149239296#32) + Ideal.ofBits .f32 897988541#32) * nw

/-- One entry of the merge. -/
def entry (ya yb g0 g1 : Fin 1024 → EReal) (w0 w1 wo : Fin 1024 → Fin 1024 → EReal) (x nw : EReal) (l : Fin 1024) : EReal :=
  normed (proj (mix ya yb g0 g1 w0 w1) wo) x nw l

section Kernel
open Cert.MergeIdeal Cert.MergeIdeal.Gen

/-- The kernel's body at row `r` of its block. -/
theorem out_entry (x0 x1 x2 x3 : Vec Ideal S512x1024 .bf16) (x4 : Vec Ideal S512x1024 .f32)
    (x5 x6 x7 : Vec Ideal S1024x1024 .bf16) (x8 x9 x10 : Vec Ideal S1x1024 .f32) (r : Fin 512) (l : Fin 1024) :
    out0_11 x0 x1 x2 x3 x4 x5 x6 x7 x8 x9 x10 (ix2 r l)
      = entry (fun k => x0 (ix2 r k)) (fun k => x1 (ix2 r k)) (fun k => x2 (ix2 r k) + x8 (ix2 0 k))
          (fun k => x3 (ix2 r k) + x9 (ix2 0 k)) (fun k d => x5 (ix2 k d)) (fun k d => x6 (ix2 k d))
          (fun k d => x7 (ix2 k d)) (x4 (ix2 r l)) (x10 (ix2 0 l)) l := by
  have hz : ∀ a : Fin 2, (![0, 0] : Fin 2 → ℕ) a = 0 := by decide
  unfold out0_11
  rw [View.canon_cons_unit_lit' _ _ _ hz]
  simp only [View.ld_unit_lit' (S := S512x1024) _ _ hz, View.ld_unit_lit' (S := S1024x1024) _ _ hz,
    View.ld_unit_lit' (S := S1x1024) _ _ hz]
  pointwise [k0_pay1, k0_pay2, k0_pay3, k0_pay4, k0_pay5, k0_pay6]
  simp only [entry, normed, proj, mix, ← gate_tanh]

end Kernel

section Reference
open Cert.MergeRefIdeal Cert.MergeRefIdeal.Read

/-- The reference at row `r` of the whole array. -/
theorem ref_entry (x0 x1 : (⟨S4x8192x1024, .bf16⟩ : BufTy).Contents (Elt Ideal))
    (x2 : (⟨S32768x7168, .bf16⟩ : BufTy).Contents (Elt Ideal)) (x3 : (⟨S4x8192x1024, .f32⟩ : BufTy).Contents (Elt Ideal))
    (x4 : (⟨S2048, .f32⟩ : BufTy).Contents (Elt Ideal)) (x5 : (⟨S2x1024x1024, .f32⟩ : BufTy).Contents (Elt Ideal))
    (x6 : (⟨S1024x1024, .f32⟩ : BufTy).Contents (Elt Ideal)) (x7 : (⟨S1024, .f32⟩ : BufTy).Contents (Elt Ideal))
    (b : Fin 4) (s : Fin 8192) (r : Fin 32768) (hr : r.val = 8192 * b.val + s.val) (l : Fin 1024) :
    val_main_v41 (F := Ideal) x0 x1 x2 x3 x4 x5 x6 x7 (ix2 r l)
      = entry (fun k => x0 (ix3 b s k)) (fun k => x1 (ix3 b s k))
          (fun k => x2 (ix2 r ⟨5120 + k.val, by omega⟩) + x4 (ix1 ⟨k.val, by omega⟩))
          (fun k => x2 (ix2 r ⟨6144 + k.val, by omega⟩) + x4 (ix1 ⟨1024 + k.val, by omega⟩))
          (fun k d => x5 (ix3 0 k d)) (fun k d => x5 (ix3 1 k d)) (fun k d => x6 (ix2 k d)) (x3 (ix3 b s l)) (x7 (ix1 l)) l := by
  have hb : ∀ h, (⟨r.val / 8192, h⟩ : Fin 4) = b := fun h => Fin.ext (by simp only [hr]; omega)
  have hs : ∀ h, (⟨r.val % 8192, h⟩ : Fin 8192) = s := fun h => Fin.ext (by simp only [hr]; omega)
  have h6 : ∀ (k : Fin 1024) h h', (⟨5120 + (1024 + k.val), h⟩ : Fin 7168) = ⟨6144 + k.val, h'⟩ := fun k h h' => Fin.ext (by simp only; omega)
  pointwise [val_main_v0, val_main_v1, val_main_v2, val_main_v3, val_main_v4, val_main_v5, val_main_v6, val_main_cst,
    val_main_v7, val_main_v8, val_main_cst_0, val_main_v9, val_main_v10, val_main_v11, val_main_v12,
    val_main_v13, val_main_v14, val_main_v15, val_main_v16, val_main_v17, val_main_v18, val_main_v19,
    val_main_v20, val_main_v21, val_main_v22, val_main_v23, val_main_v24, val_main_v25, val_main_v26,
    val_main_v27, val_main_v28, val_main_cst_1, val_main_v29, val_main_v30, val_main_cst_2, val_main_v31,
    val_main_v32, val_main_cst_3, val_main_v33, val_main_v34, val_main_v35, val_main_v36, val_main_v37,
    val_main_v38, val_main_v39, val_main_v40, val_main_v41]
  simp only [hb, hs, entry, normed, proj, mix, gate]
  simp only [show ∀ k : ℕ, 5120 + (1024 + k) = 6144 + k from fun k => by omega]

end Reference
end Cert.Proof.Merge
-- ==== Proof.InProjRow.lean ====
module

public import proofs.«01_k».proof.Proof.InProjInv
public import Idealize.ShloMosaic.Lib.Pointwise
public import Idealize.ShloMosaic.Lib.ValueIdx
public import Idealize.ShloMosaic.Lib.Pipeline.ValueKit.Tiles

/-! # One entry of the input projection, as the kernel computes it

A row tile is normalised row by row; its sixteen predecessors likewise, or zero where the tile opens a sequence. A chunk
of 256 rows of the convolved columns reads the projected rows three before its first, from the chunk before or from the
halo: over the whole tile that is one sequence of projected rows, sixteen of the halo and then the tile's, and entry `r` of
the tile sums four of them weighted by the filter.
-/

@[expose] public section

noncomputable section
open Idealize.ShloMosaic Idealize.ShloMosaic.Tactic
namespace Cert.Proof.InProj

/-- Entry `k` of the normalised row `x` with weights `w`. -/
def nrm (x w : Fin 1024 → EReal) (k : Fin 1024) : EReal :=
  x k * Ideal.rsqrt (Ideal.div (∑ d, x d * x d) (Ideal.ofBits .f32 1149239296#32) + Ideal.ofBits .f32 897988541#32) * w k

/-- Four projected rows' entries weighted by the filter's. -/
def taps (y c : Fin 4 → EReal) : EReal := y 0 * c 0 + y 1 * c 1 + y 2 * c 2 + y 3 * c 3

/-- The kernel's silu, through the hyperbolic tangent of the half. -/
def tsilu (y : EReal) : EReal :=
  Ideal.ofBits .f32 1056964608#32 * y * Ideal.tanh (Ideal.ofBits .f32 1056964608#32 * y) + Ideal.ofBits .f32 1056964608#32 * y

open Cert.InProjIdeal Cert.InProjIdeal.Gen Cert.InProjIdeal.Hand

/-- A load of a rectangle of a matrix, at an index. -/
theorem ld_at {N K n k : ℕ} {e : EltTy} (x : Vec Ideal ⟨2, ![N, K]⟩ e) (a : ℕ)
    (inb : ∀ b : Fin 2, (![a, 0] : Fin 2 → ℕ) b + (![n, k] : Fin 2 → ℕ) b ≤ (![N, K] : Fin 2 → ℕ) b) (r : Fin n) (j : Fin k)
    (R : Fin N) (J : Fin K) (hR : R.val = a + r.val) (hJ : J.val = j.val) :
    View.ld x (Rect.unit (s := ⟨2, ![N, K]⟩) ![a, 0] ![n, k] inb) (ix2 r j) = x (ix2 R J) :=
  View.ld_unit_apply_of x _ _ _ _ _ fun b => by
    match b with
    | ⟨0, _⟩ => exact hR
    | ⟨1, _⟩ => exact hJ.trans (Nat.zero_add _).symm

/-- A load of a whole matrix. -/
theorem ld_whole {N K : ℕ} {e : EltTy} (x : Vec Ideal ⟨2, ![N, K]⟩ e)
    (inb : ∀ b : Fin 2, (![0, 0] : Fin 2 → ℕ) b + (![N, K] : Fin 2 → ℕ) b ≤ (![N, K] : Fin 2 → ℕ) b) :
    View.ld x (Rect.unit (s := ⟨2, ![N, K]⟩) ![0, 0] ![N, K] inb) = x := by
  funext y
  exact View.ld_unit_apply_of x _ _ _ _ _ fun b => by
    match b with
    | ⟨0, _⟩ => exact (Nat.zero_add _).symm
    | ⟨1, _⟩ => exact (Nat.zero_add _).symm

theorem hTile_at (x : Vec Ideal S1024x1024 .f32) (nw : Vec Ideal S1x1024 .f32) (r k : Fin 1024) :
    hTile x nw (ix2 r k) = nrm (fun d => x (ix2 r d)) (fun d => nw (ix2 0 d)) k := by
  unfold hTile
  rw [ld_whole x, ld_whole nw]
  unfold k0_pay4 k0_pay3
  pointwise []
  rfl

theorem smallTile_at (x : Vec Ideal S1024x1024 .f32) (nw : Vec Ideal S1x1024 .f32) (ws : Vec Ideal S1024x128 .bf16)
    (r : Fin 1024) (j : Fin 128) :
    smallTile x nw ws (ix2 r j) = ∑ k, nrm (fun d => x (ix2 r d)) (fun d => nw (ix2 0 d)) k * ws (ix2 k j) := by
  unfold smallTile
  rw [ld_whole x, ld_whole nw, ld_whole ws]
  unfold k0_pay5 k0_pay3
  pointwise []
  rfl

/-- The word that says a tile opens a sequence. -/
def opensSeq (n : ℕ) : BitVec 1 :=
  let v199 : BitVec 32 := Scalar.select (Scalar.cmpi .eq 8#32 0#32) 1#32 8#32
  let v200 : BitVec 32 := Scalar.remsi (BitVec.ofNat 32 n) v199
  Scalar.cmpi .eq (Scalar.select (Scalar.andi (Scalar.xori (Scalar.cmpi .slt v200 0#32) (Scalar.cmpi .slt v199 0#32))
    (Scalar.cmpi .ne v200 0#32)) (Scalar.addi v200 v199) v200) 0#32

theorem opensSeq_iff : ∀ n : Fin 32, opensSeq n.val = if n.val % 8 = 0 then 1#1 else 0#1 := by decide +kernel

theorem haloTile_at (i : grid0.Coords) (x : Vec Ideal S16x1024 .f32) (nw : Vec Ideal S1x1024 .f32) (r : Fin 16) (k : Fin 1024) :
    haloTile i x nw (ix2 r k) = if (i 0).val % 8 = 0 then 0 else nrm (fun d => x (ix2 r d)) (fun d => nw (ix2 0 d)) k := by
  have ho : opensSeq (i 0).val = _ := opensSeq_iff (i 0)
  have e : haloTile i x nw = shapeCast S16x1024 (Scalar.select (opensSeq (i 0).val)
      (broadcast S16x1024 (Scalar.ofBits (F := Ideal) .bf16 0x0000#16)) (truncf (F := Ideal) .bf16 (mulf (F := Ideal) (φ := .f32)
        (mulf (F := Ideal) (φ := .f32) (k0_pay6 (View.ld x (Rect.unit ![0, 0] S16x1024.size inb_S16x1024_S16x1024_0_0)))
          (k0_pay8 (View.ld x (Rect.unit ![0, 0] S16x1024.size inb_S16x1024_S16x1024_0_0))))
        (broadcastTo S16x1024 (k0_pay7 (View.ld nw (Rect.unit ![0, 0] S1x1024.size inb_S1x1024_S1x1024_0_0))) broadcasts_S1x1024_S16x1024))
        bitsLt_bf16_f32)) shapeCasts_S16x1024_S16x1024 := rfl
  rw [e, ho, ld_whole x, ld_whole nw]
  by_cases h : (i 0).val % 8 = 0
  · rw [if_pos h, if_pos h, Scalar.select, if_pos (show (1#1 : BitVec 1) = 1 from rfl)]
    pointwise []
  · rw [if_neg h, if_neg h, Scalar.select, if_neg (show ¬(0#1 : BitVec 1) = 1 by decide)]
    unfold k0_pay6 k0_pay8 k0_pay7 k0_pay6
    pointwise []
    rfl

/-- A chunk of the other columns. -/
theorem restChunk_at (wr : FVec Ideal S1024x1792 .bf16) (h : Vec Ideal S256x1024 .bf16) (cs : Vec Ideal S1x1792 .f32) (r : Fin 256) (j : Fin 1792) :
    k0_pay20 wr h cs (ix2 r j) = (∑ k, h (ix2 r k) * wr (ix2 k j)) * cs (ix2 0 j) := by
  unfold k0_pay20
  pointwise []

/-- A chunk of the projected rows. -/
theorem projChunk_at (wc : FVec Ideal S1024x768 .bf16) (h : Vec Ideal S256x1024 .bf16) (r : Fin 256) (j : Fin 768) :
    k0_pay19 wc h (ix2 r j) = ∑ k, h (ix2 r k) * wc (ix2 k j) := by
  unfold k0_pay19
  pointwise []

/-- A chunk of the convolved columns, over the sixteen projected rows before it and its own. -/
theorem convChunk_at (cw : Vec Ideal S4x768 .f32) (tail : FVec Ideal S16x768 .f32) (acc : FVec Ideal S256x768 .f32) (p : ℕ → EReal)
    (r : Fin 256) (j : Fin 768) (ht : ∀ n : Fin 16, tail (ix2 n j) = p n.val) (ha : ∀ n : Fin 256, acc (ix2 n j) = p (16 + n.val)) :
    k0_pay2 cw tail acc (ix2 r j) = tsilu (taps (fun q => p (13 + r.val + q.val)) (fun q => cw (ix2 q j))) := by
  have he : ∀ (n : ℕ) (hn : n ≤ 16) (h1 : n + r.val < 16 → n + r.val < 16) (h2 : ¬n + r.val < 16 → n + r.val - 16 < 256),
      (if h : n + r.val < 16 then tail (ix2 ⟨n + r.val, h1 h⟩ j) else acc (ix2 ⟨n + r.val - 16, h2 h⟩ j))
      = p (n + r.val) := by
    intro n hn h1 h2
    split
    · exact ht _
    · rw [ha]; congr 1; simp only; omega
  unfold k0_pay2
  pointwise []
  rw [he 13 (by omega) id (fun _ => by omega), he 14 (by omega) id (fun _ => by omega), he 15 (by omega) id (fun _ => by omega), ha r]
  unfold tsilu taps
  beta_reduce
  rw [show 13 + r.val + (0 : Fin 4).val = 13 + r.val from rfl, show 13 + r.val + (1 : Fin 4).val = 14 + r.val by simp; omega,
    show 13 + r.val + (2 : Fin 4).val = 15 + r.val by simp; omega, show 13 + r.val + (3 : Fin 4).val = 16 + r.val by simp; omega]

/-- The projected rows a tile's filter reads: the halo's sixteen, then the tile's. -/
def rows (h : Vec Ideal S1024x1024 .bf16) (hh : Vec Ideal S16x1024 .bf16) (wc : Vec Ideal S1024x768 .bf16) (j : Fin 768) (n : ℕ) : EReal :=
  if hn : n < 16 then ∑ k, hh (ix2 ⟨n, hn⟩ k) * wc (ix2 k j)
  else if hm : n - 16 < 1024 then ∑ k, h (ix2 ⟨n - 16, hm⟩ k) * wc (ix2 k j) else 0

/-- The four chunk payloads are one function of the rows before and the chunk's own. -/
theorem pay_first (wc : Vec Ideal S1024x768 .bf16) (cw : Vec Ideal S4x768 .f32) (hh : FVec Ideal S16x1024 .bf16) (h : Vec Ideal S256x1024 .bf16) :
    k0_pay18 (k0_pay15 wc cw hh h) (k0_pay16 wc hh h) (k0_pay17 cw)
      = k0_pay2 cw (matmul (F := Ideal) dot_S16x1024_S1024x768_S16x768_1_0_0_1_n_n none hh (k0_pay10 wc) (constant (F := Ideal) S16x768 .f32 0x00000000#32))
          (k0_pay12 wc h) := rfl

theorem pay_second (wc : FVec Ideal S1024x768 .bf16) (cw : Vec Ideal S4x768 .f32) (a : FVec Ideal S256x768 .f32) (h : Vec Ideal S256x1024 .bf16) :
    k0_pay21 wc cw a h = k0_pay2 cw (extractStridedSlice S16x768 ![240, 0] a slices_S256x768_o240_0_S16x768) (k0_pay19 wc h) := rfl

theorem pay_third (wc : FVec Ideal S1024x768 .bf16) (cw : Vec Ideal S4x768 .f32) (a : FVec Ideal S256x768 .f32) (h : Vec Ideal S256x1024 .bf16) :
    k0_pay24 wc cw a h = k0_pay2 cw (extractStridedSlice S16x768 ![240, 0] a slices_S256x768_o240_0_S16x768) (k0_pay22 wc h) := rfl

/-- A matrix index is its two coordinates. -/
theorem ix2_of {n k : ℕ} {j : (⟨2, ![n, k]⟩ : Shape).Idx} {a : Fin n} {b : Fin k} (h0 : (j 0).val = a.val) (h1 : (j 1).val = b.val) :
    j = ix2 a b := by
  funext i
  apply Fin.ext
  match i with
  | ⟨0, _⟩ => exact h0
  | ⟨1, _⟩ => exact h1

/-- A chunk of whole rows agrees with `G` where it holds the index. -/
theorem tile_at {k : ℕ} {e : EltTy} (off : ℕ) (w : Vec Ideal ⟨2, ![256, k]⟩ e) (G : Fin 1024 → Fin k → Elt Ideal e)
    (hw : ∀ (r : Fin 256) (j : Fin k) (h : off + r.val < 1024), w (ix2 r j) = G ⟨off + r.val, h⟩ j) (R : Fin 1024) (j : Fin k) :
    View.TileAt (Val := Elt Ideal) (e := e) (S := ⟨2, ![1024, k]⟩) (ix2 R j) ![off, 0] ![256, k] w (G R j) := by
  intro x hx
  have h0 : R.val = off + (x 0).val := hx 0
  have h1 : j.val = 0 + (x 1).val := hx 1
  have hr : (x 0).val < 256 := (x 0).isLt
  rw [show x = ix2 ⟨(x 0).val, hr⟩ j from ix2_of rfl (by rw [h1, Nat.zero_add]), hw _ _ (by simp only; omega)]
  congr 1
  exact Fin.ext h0.symm

theorem proj_rows (h : Vec Ideal S1024x1024 .bf16) (hh : Vec Ideal S16x1024 .bf16) (wc : Vec Ideal S1024x768 .bf16) (j : Fin 768)
    (off : ℕ) (inb) (n : Fin 256) (ho : off + 256 ≤ 1024) :
    k0_pay19 (k0_pay10 wc) (View.ld h (Rect.unit (s := S1024x1024) ![off, 0] S256x1024.size inb)) (ix2 n j)
      = rows h hh wc j (off + (16 + n.val)) := by
  rw [projChunk_at]
  unfold rows
  rw [dif_neg (by omega), dif_pos (by omega)]
  refine Finset.sum_congr rfl fun k _ => ?_
  rw [ld_at h off inb n k ⟨off + (16 + n.val) - 16, by omega⟩ k (by simp only; omega) rfl]
  congr 1
  unfold k0_pay10
  pointwise []

/-- Row `R` of the convolved block. -/
theorem convTile_at (h : Vec Ideal S1024x1024 .bf16) (hh : Vec Ideal S16x1024 .bf16) (wc : Vec Ideal S1024x768 .bf16)
    (cw : Vec Ideal S4x768 .f32) (R : Fin 1024) (j : Fin 768) :
    convTile h hh wc cw (ix2 R j) = tsilu (taps (fun q => rows h hh wc j (13 + R.val + q.val)) (fun q => cw (ix2 q j))) := by
  have key : ∀ (off : ℕ) (tail : FVec Ideal S16x768 .f32) (acc : FVec Ideal S256x768 .f32),
      (∀ (n : Fin 16) (j : Fin 768), tail (ix2 n j) = rows h hh wc j (off + n.val)) →
      (∀ (n : Fin 256) (j : Fin 768), acc (ix2 n j) = rows h hh wc j (off + (16 + n.val))) →
      View.TileAt (Val := Elt Ideal) (e := .bf16) (S := S1024x768) (ix2 R j) ![off, 0] S256x768.size (k0_pay2 cw tail acc)
        (tsilu (taps (fun q => rows h hh wc j (13 + R.val + q.val)) (fun q => cw (ix2 q j)))) := fun off tail acc ht ha =>
    tile_at (k := 768) (e := .bf16) off (k0_pay2 cw tail acc) (fun R j => tsilu (taps (fun q => rows h hh wc j (13 + R.val + q.val)) (fun q => cw (ix2 q j))))
      (fun r j hr => by
        rw [convChunk_at cw tail acc (fun n => rows h hh wc j (off + n)) r j (fun n => ht n j) (fun n => ha n j)]
        simp only [show ∀ q : Fin 4, off + (13 + r.val + q.val) = 13 + (off + r.val) + q.val from fun q => by omega]) R j
  have hslice : ∀ (a : FVec Ideal S256x768 .f32) (n : Fin 16) (j : Fin 768),
      extractStridedSlice S16x768 ![240, 0] a slices_S256x768_o240_0_S16x768 (ix2 n j) = a (ix2 ⟨240 + n.val, by omega⟩ j) := by
    intro a n j; pointwise []
  unfold convTile
  refine View.canon_eq_of_allAt _ _ _ (conv_cover h hh wc cw _) ?_
  unfold convPieces
  rw [ld_whole wc, ld_whole cw, ld_whole hh]
  refine View.allAt_cons_unit _ _ _ _ _ ?_ (View.allAt_cons_unit _ _ _ _ _ ?_ (View.allAt_cons_unit _ _ _ _ _ ?_ (View.allAt_cons_unit _ _ _ _ _ ?_ (View.allAt_nil _ _))))
  · refine key 768 _ _ (fun n j => ?_) (fun n j => ?_)
    · unfold k0_pay25
      rw [hslice]
      refine (proj_rows h hh wc j 512 _ _ (by omega)).trans ?_
      congr 1; simp only; omega
    · exact proj_rows h hh wc j 768 _ n (by omega)
  · rw [pay_third]
    refine key 512 _ _ (fun n j => ?_) (fun n j => ?_)
    · rw [hslice]
      refine (proj_rows h hh wc j 256 _ _ (by omega)).trans ?_
      congr 1; simp only; omega
    · exact proj_rows h hh wc j 512 _ n (by omega)
  · rw [pay_second]
    refine key 256 _ _ (fun n j => ?_) (fun n j => ?_)
    · rw [hslice]
      refine (proj_rows h hh wc j 0 _ _ (by omega)).trans ?_
      congr 1; simp only; omega
    · exact proj_rows h hh wc j 256 _ n (by omega)
  · rw [pay_first]
    refine key 0 _ _ (fun n j => ?_) (fun n j => ?_)
    · unfold k0_pay10 rows
      rw [dif_pos (by omega)]
      pointwise []
    · exact proj_rows h hh wc j 0 _ n (by omega)

/-- Row `R` of the other columns' block. -/
theorem restTile_at (h : Vec Ideal S1024x1024 .bf16) (wr : Vec Ideal S1024x1792 .bf16) (cs : Vec Ideal S1x1792 .f32) (R : Fin 1024) (j : Fin 1792) :
    restTile h wr cs (ix2 R j) = (∑ k, h (ix2 R k) * wr (ix2 k j)) * cs (ix2 0 j) := by
  have key : ∀ (off : ℕ) (inb), off + 256 ≤ 1024 → View.TileAt (Val := Elt Ideal) (e := .bf16) (S := S1024x1792) (ix2 R j) ![off, 0] S256x1792.size
      (k0_pay20 (k0_pay11 wr) (View.ld h (Rect.unit (s := S1024x1024) ![off, 0] S256x1024.size inb)) cs)
      ((∑ k, h (ix2 R k) * wr (ix2 k j)) * cs (ix2 0 j)) := fun off inb ho =>
    tile_at (k := 1792) (e := .bf16) off (k0_pay20 (k0_pay11 wr) (View.ld h (Rect.unit (s := S1024x1024) ![off, 0] S256x1024.size inb)) cs)
      (fun R j => (∑ k, h (ix2 R k) * wr (ix2 k j)) * cs (ix2 0 j)) (fun r j hr => by
      rw [restChunk_at]
      simp only [ld_at h off inb r _ ⟨off + r.val, hr⟩ _ rfl rfl]
      unfold k0_pay11
      pointwise []) R j
  unfold restTile
  refine View.canon_eq_of_allAt _ _ _ (rest_cover h wr cs _) ?_
  unfold restPieces
  rw [ld_whole wr, ld_whole cs]
  exact View.allAt_cons_unit _ _ _ _ _ (key 768 _ (by omega)) (View.allAt_cons_unit _ _ _ _ _ (key 512 _ (by omega))
    (View.allAt_cons_unit _ _ _ _ _ (key 256 _ (by omega)) (View.allAt_cons_unit _ _ _ _ _ (key 0 _ (by omega)) (View.allAt_nil _ _))))

end Cert.Proof.InProj
end
-- ==== Proof.InProjRef.lean ====
module

public import proofs.«01_k».proof.Proof.InProjRow
public import proofs.«01_k».proof.Proof.Gen.InProjRefIdeal.Read

/-! # One entry of the input projection, as the reference computes it

Sequence `b`, position `s` of the projection is the normalised row against the weight's columns. The filtered columns read
it at the position and the three before, zero before the sequence; the query columns carry the head scale; the two small
groups stand in a padded array.
-/

@[expose] public section

noncomputable section

namespace Cert.Proof.InProj

open Idealize.ShloMosaic Idealize.ShloMosaic.Tactic

/-- Column `j` of the projection of the row at position `s` of sequence `b`. -/
def pr (x0 : Vec Ideal ⟨3, ![4, 8192, 1024]⟩ .f32) (x1 : Vec Ideal ⟨1, ![1024]⟩ .f32) (x2 : Vec Ideal ⟨2, ![1024, 10256]⟩ .f32)
    (b : Fin 4) (s : Fin 8192) (j : Fin 10256) : EReal :=
  ∑ k, nrm (fun d => x0 (ix3 b s d)) (fun d => x1 (ix1 d)) k * x2 (ix2 k j)

/-- The same, `n` positions into a sequence that starts with three zeros. -/
def late (x0 : Vec Ideal ⟨3, ![4, 8192, 1024]⟩ .f32) (x1 : Vec Ideal ⟨1, ![1024]⟩ .f32) (x2 : Vec Ideal ⟨2, ![1024, 10256]⟩ .f32)
    (b : Fin 4) (n : ℕ) (j : Fin 10256) : EReal :=
  if h : 3 ≤ n ∧ n - 3 < 8192 then pr x0 x1 x2 b ⟨n - 3, h.2⟩ j else 0

/-- The silu of the reference. -/
def silu (y : EReal) : EReal :=
  y * Ideal.div 1 (1 + Ideal.exp (-y))

open Cert.InProjRefIdeal Cert.InProjRefIdeal.Read

section
variable (x0 : (⟨S4x8192x1024, .f32⟩ : BufTy).Contents (Elt Ideal)) (x1 : (⟨S1024, .f32⟩ : BufTy).Contents (Elt Ideal))
    (x2 : (⟨S1024x10256, .f32⟩ : BufTy).Contents (Elt Ideal)) (x3 : (⟨S4x3072, .f32⟩ : BufTy).Contents (Elt Ideal))

/-- The projection. -/
theorem val13_at (b : Fin 4) (s : Fin 8192) (j : Fin 10256) : val_main_v13 (F := Ideal) x0 x1 x2 (ix3 b s j) = pr x0 x1 x2 b s j := by
  pointwise [val_main_v0, val_main_v1, val_main_v2, val_main_v3, val_main_v4, val_main_v5, val_main_v6, val_main_cst,
    val_main_v7, val_main_v8, val_main_cst_0, val_main_cst_1, val_main_v9, val_main_v10, val_main_v11, val_main_v12, val_main_v13]
  rfl

/-- The integer zero as a number. -/
theorem word_zero : FloatOps.sitofp (F := Ideal) FTy.f32 (0#32) = (0 : EReal) := by
  show (((0#32 : BitVec 32).toInt : ℝ) : EReal) = 0
  simp

/-- The columns to be filtered, three zeros put before each sequence. -/
theorem val18_at (b : Fin 4) (s : Fin 8195) (j : Fin 3072) :
    val_main_v18 (F := Ideal) x0 x1 x2 (ix3 b s j) = late x0 x1 x2 b s.val ⟨j.val, by omega⟩ := by
  have e := val13_at x0 x1 x2 b
  generalize hp : val_main_v13 (F := Ideal) x0 x1 x2 = p at e
  pointwise [val_main_v18, val_main_v14, val_main_call0_v0, val_main_c]
  rw [hp]
  unfold late
  simp only [e, word_zero]

/-- The filtered columns. -/
theorem val45_at (b : Fin 4) (s : Fin 8192) (j : Fin 3072) :
    val_main_v45 (F := Ideal) x0 x1 x2 x3 (ix3 b s j)
      = taps (fun q => late x0 x1 x2 b (s.val + q.val) ⟨j.val, by omega⟩) (fun q => x3 (ix2 q j)) := by
  have e := val18_at x0 x1 x2 b
  generalize hp : val_main_v18 (F := Ideal) x0 x1 x2 = p at e
  pointwise [val_main_v19, val_main_v20, val_main_v21, val_main_v22, val_main_v23, val_main_v24, val_main_v25, val_main_v26,
    val_main_v27, val_main_v28, val_main_v29, val_main_v30, val_main_v31, val_main_v32, val_main_v33, val_main_v34, val_main_v35,
    val_main_v36, val_main_v37, val_main_v38, val_main_v39, val_main_v40, val_main_v41, val_main_v42, val_main_v43, val_main_v44,
    val_main_v45]
  rw [hp]
  simp only [e]
  unfold taps
  simp only [Nat.add_comm s.val]
  simp

/-- The filtered columns through the silu, as the reference returns them: row `r` is position `s` of sequence `b`. -/
theorem val54_at (b : Fin 4) (s : Fin 8192) (r : Fin 32768) (hr : r.val = 8192 * b.val + s.val) (j : Fin 3072) :
    val_main_v54 (F := Ideal) x0 x1 x2 x3 (ix2 r j)
      = silu (taps (fun q => late x0 x1 x2 b (s.val + q.val) ⟨j.val, by omega⟩) (fun q => x3 (ix2 q j))) := by
  have hb : ∀ h, (⟨r.val / 8192, h⟩ : Fin 4) = b := fun h => Fin.ext (by simp only [hr]; omega)
  have hs : ∀ h, (⟨r.val % 8192, h⟩ : Fin 8192) = s := fun h => Fin.ext (by simp only [hr]; omega)
  have e := val45_at x0 x1 x2 x3 b s j
  generalize hp : val_main_v45 (F := Ideal) x0 x1 x2 x3 = p at e
  pointwise [val_main_v54, val_main_v53, val_main_v52, val_main_call2_v0, val_main_call2_v1, val_main_call2_cst, val_main_call2_v2,
    val_main_call2_v3, val_main_call2_cst_0, val_main_call2_v4, val_main_call2_v5]
  simp only [hp, hb, hs, e]
  rfl

/-- The column of the weight that column `j` of the unfiltered result takes. -/
def rcol (j : Fin 7168) : Fin 10256 := if h : j.val < 1024 then ⟨3072 + j.val, by omega⟩ else ⟨3088 + j.val, by omega⟩

/-- The scale of that column: the heads' for the query columns. -/
def rscale (j : ℕ) : EReal := if 1024 ≤ j ∧ j < 2048 then Ideal.ofBits .f32 1035273459#32 else 1

/-- The unfiltered columns. -/
theorem val56_at (b : Fin 4) (s : Fin 8192) (r : Fin 32768) (hr : r.val = 8192 * b.val + s.val) (j : Fin 7168) :
    val_main_v56 (F := Ideal) x0 x1 x2 (ix2 r j) = pr x0 x1 x2 b s (rcol j) * rscale j.val := by
  have hb : ∀ h, (⟨r.val / 8192, h⟩ : Fin 4) = b := fun h => Fin.ext (by simp only [hr]; omega)
  have hs : ∀ h, (⟨r.val % 8192, h⟩ : Fin 8192) = s := fun h => Fin.ext (by simp only [hr]; omega)
  have e := val13_at x0 x1 x2 b s
  generalize hp : val_main_v13 (F := Ideal) x0 x1 x2 = p at e
  pointwise [val_main_v56, val_main_v55, val_main_v50, val_main_v49, val_main_v48, val_main_v47, val_main_v46, val_main_v15,
    val_main_v17, val_main_cst_2]
  simp only [hp, hb, hs, e]
  split
  · rename_i h1
    have hc : rcol j = ⟨3072 + j.val, by omega⟩ := dif_pos h1
    have hr : rscale j.val = 1 := if_neg (by omega)
    rw [hc, hr, mul_one]
  · rename_i h1
    have hc : rcol j = ⟨3088 + j.val, by omega⟩ := dif_neg h1
    split
    · rename_i h2
      have hr : rscale j.val = Ideal.ofBits .f32 1035273459#32 := if_pos (by omega)
      rw [hc, hr]
      exact congrArg (fun q => pr x0 x1 x2 b s q * _) (Fin.ext (by simp only; omega))
    · rename_i h2
      have hr : rscale j.val = 1 := if_neg (by omega)
      have ht : pr x0 x1 x2 b s (rcol j) * rscale j.val = pr x0 x1 x2 b s ⟨3088 + j.val, by omega⟩ := by rw [hc, hr, mul_one]
      exact (congrArg (fun q => pr x0 x1 x2 b s q) (Fin.ext (by simp only; omega))).trans ht.symm

/-- The two small groups of columns, padded with zeros. -/
theorem val57_at (b : Fin 4) (s : Fin 8192) (r : Fin 32768) (hr : r.val = 8192 * b.val + s.val) (j : Fin 128) :
    val_main_v57 (F := Ideal) x0 x1 x2 (ix2 r j) = if h : j.val < 16 then pr x0 x1 x2 b s ⟨4096 + j.val, by omega⟩ else 0 := by
  have hb : ∀ h, (⟨r.val / 8192, h⟩ : Fin 4) = b := fun h => Fin.ext (by simp only [hr]; omega)
  have hs : ∀ h, (⟨r.val % 8192, h⟩ : Fin 8192) = s := fun h => Fin.ext (by simp only [hr]; omega)
  have e := val13_at x0 x1 x2 b s
  generalize hp : val_main_v13 (F := Ideal) x0 x1 x2 = p at e
  pointwise [val_main_v57, val_main_v51, val_main_v16, val_main_call1_v0, val_main_c_3]
  simp only [hp, hb, hs, e, word_zero]
  split
  · rename_i h1
    rw [dif_pos h1.2.2]
  · rename_i h1
    rw [dif_neg (fun h => h1 ⟨by omega, by omega, h⟩)]

end
end Cert.Proof.InProj
-- ==== Proof.InProjSilu.lean ====
module

public import proofs.«01_k».proof.Proof.MergeRow
public import proofs.«01_k».proof.Proof.InProjRef

/-! # The two silus agree on a real number, and the filtered columns are real

At `-∞` the kernel's silu multiplies through the half before it adds and the reference's does not, so they are compared at
real numbers. With real weights the filtered columns are real whatever the activations: a row with an infinite entry has an
infinite sum of squares, whose reciprocal root is zero, and zero is what each entry of the row is multiplied by.
-/

@[expose] public section

noncomputable section
open Idealize.ShloMosaic
namespace Cert.Proof.InProj

/-- A real number among the extended ones. -/
def IsReal (y : EReal) : Prop := ∃ r : ℝ, y = (r : EReal)

theorem IsReal.add {a b : EReal} (ha : IsReal a) (hb : IsReal b) : IsReal (a + b) := by
  obtain ⟨r, rfl⟩ := ha
  obtain ⟨s, rfl⟩ := hb
  exact ⟨r + s, by norm_cast⟩

theorem IsReal.mul {a b : EReal} (ha : IsReal a) (hb : IsReal b) : IsReal (a * b) := by
  obtain ⟨r, rfl⟩ := ha
  obtain ⟨s, rfl⟩ := hb
  exact ⟨r * s, by norm_cast⟩

theorem isReal_zero : IsReal 0 := ⟨0, rfl⟩

theorem IsReal.sum {ι : Type} (s : Finset ι) {f : ι → EReal} (h : ∀ i, IsReal (f i)) : IsReal (∑ i ∈ s, f i) := by
  classical
  induction s using Finset.induction_on with
  | empty => exact ⟨0, by simp⟩
  | insert a t ha ih => rw [Finset.sum_insert ha]; exact (h a).add ih

/-- The two spellings of the silu at a real number. -/
theorem tsilu_eq {y : EReal} (h : IsReal y) : tsilu y = silu y := by
  obtain ⟨r, rfl⟩ := h
  have g := Cert.Proof.Merge.gate_tanh (r : EReal)
  unfold Cert.Proof.Merge.gate at g
  unfold tsilu silu
  rw [← g, Cert.Proof.Merge.half_eq, ← EReal.coe_mul, Ideal.tanh_coe]
  norm_cast
  ring

/-- A square is not negative. -/
theorem sq_nonneg' (y : EReal) : 0 ≤ y * y := by
  induction y with
  | bot => simp
  | top => simp
  | coe r => exact_mod_cast mul_self_nonneg r

/-- The word of 1024 and the one of the small number added to the mean. -/
theorem n_eq : Ideal.ofBits .f32 1149239296#32 = ((1024 : ℝ) : EReal) := by
  simp [Ideal.ofBits, Ideal.ieee, -EReal.coe_mul]
  norm_num

theorem eps_pos : ∃ e : ℝ, 0 < e ∧ Ideal.ofBits .f32 897988541#32 = (e : EReal) := by
  refine ⟨_, ?_, by simp [Ideal.ofBits, Ideal.ieee, -EReal.coe_mul]; rfl⟩
  norm_num

/-- A normalised entry is real where its weight is. -/
theorem nrm_real (x w : Fin 1024 → EReal) (k : Fin 1024) (hw : IsReal (w k)) : IsReal (nrm x w k) := by
  unfold nrm
  refine IsReal.mul ?_ hw
  obtain ⟨e, he, hee⟩ := eps_pos
  rw [n_eq, hee, Ideal.div_coe (by norm_num)]
  by_cases hx : ∀ d, IsReal (x d)
  · obtain ⟨q, hq⟩ := IsReal.sum Finset.univ (fun d => (hx d).mul (hx d))
    have hq0 : 0 ≤ q := by
      have := Finset.sum_nonneg (s := Finset.univ) (fun d _ => sq_nonneg' (x d))
      rw [hq] at this
      exact_mod_cast this
    rw [hq, ← EReal.coe_mul, ← EReal.coe_add]
    have hp : 0 < q * (1 / 1024) + e := by positivity
    rw [Ideal.rsqrt_coe, if_neg (not_lt.mpr hp.le), if_neg hp.ne']
    exact (hx k).mul ⟨_, rfl⟩
  · push Not at hx
    obtain ⟨d, hd⟩ := hx
    have ht : x d * x d = ⊤ := by
      induction h : x d with
      | bot => simp
      | top => simp
      | coe r => exact absurd ⟨r, h⟩ hd
    have hs : ∑ d, x d * x d = ⊤ := by
      refine top_le_iff.mp ?_
      rw [← ht]
      exact Finset.single_le_sum (f := fun d => x d * x d) (fun d _ => sq_nonneg' (x d)) (Finset.mem_univ d)
    rw [hs, EReal.top_mul_coe_of_pos (by norm_num), EReal.top_add_coe, Ideal.rsqrt_top, mul_zero]
    exact isReal_zero

variable (x0 : Vec Ideal ⟨3, ![4, 8192, 1024]⟩ .f32) (x1 : Vec Ideal ⟨1, ![1024]⟩ .f32) (x2 : Vec Ideal ⟨2, ![1024, 10256]⟩ .f32)
    (x3 : Vec Ideal ⟨2, ![4, 3072]⟩ .f32)

/-- The projection is real where the two weights are. -/
theorem pr_real (h1 : ∀ i, IsReal (x1 i)) (h2 : ∀ i, IsReal (x2 i)) (b : Fin 4) (s : Fin 8192) (j : Fin 10256) :
    IsReal (pr x0 x1 x2 b s j) :=
  IsReal.sum _ fun k => (nrm_real _ _ k (h1 _)).mul (h2 _)

/-- So are the filtered columns. -/
theorem taps_real (h1 : ∀ i, IsReal (x1 i)) (h2 : ∀ i, IsReal (x2 i)) (h3 : ∀ i, IsReal (x3 i)) (b : Fin 4) (s : Fin 8192)
    (j : Fin 10256) (l : Fin 3072) :
    IsReal (taps (fun q => late x0 x1 x2 b (s.val + q.val) j) (fun q => x3 (ix2 q l))) := by
  have hl : ∀ n, IsReal (late x0 x1 x2 b n j) := fun n => by
    unfold late
    split
    · exact pr_real x0 x1 x2 h1 h2 _ _ _
    · exact isReal_zero
  unfold taps
  exact ((((hl _).mul (h3 _)).add ((hl _).mul (h3 _))).add ((hl _).mul (h3 _))).add ((hl _).mul (h3 _))

end Cert.Proof.InProj
-- ==== Proof.InProjBlocks.lean ====
module

public import proofs.«01_k».proof.Proof.InProjSilu
public import proofs.«01_k».proof.Proof.InProjInv
public import Idealize.ShloMosaic.Lib.Claim

/-! # The blocks the input projection reads

The columns of the weight are regrouped before the run: the filtered ones, the others with their scale in a row beside them,
the small ones padded with zeros. Here each block a grid point reads is located in the arguments.
-/

@[expose] public section

noncomputable section
open Idealize.ShloMosaic Idealize.ShloMosaic.Tactic Idealize.ShloMosaic.TcCoe
namespace Cert.Proof.InProj
open Cert.InProjIdeal Cert.InProjIdeal.Gen Cert.InProjIdeal.Hand
variable (m : (ℓ : Loc nD τ sig) → Buf (Elt Ideal) ℓ) (c : Dev nD)

/-! ## What the host operations before the region leave -/

theorem V_x : V m c main_v7 = shapeCast _ (m ((c : Thread nD τ).loc main_arg0)) shapeCasts_S4x8192x1024_S32768x1024 := by
  simp only [V, hostOps0, hostOps0_1, hostOps0_2, List.flatten_cons, List.flatten_nil, List.append_nil, List.cons_append, List.nil_append]
  after_results
  rfl
theorem V_nw : V m c main_v12 = shapeCast _ (m ((c : Thread nD τ).loc main_arg1)) shapeCasts_S1024_S1x1024 := by
  simp only [V, hostOps0, hostOps0_1, hostOps0_2, List.flatten_cons, List.flatten_nil, List.append_nil, List.cons_append, List.nil_append]
  after_results
  rfl
theorem V_wc : V m c main_v1 = (extractStridedSlice S1024x3072 ![0, 0] (truncf (F := Ideal) .bf16 (m ((c : Thread nD τ).loc main_arg2))
    bitsLt_bf16_f32 : FVec Ideal S1024x10256 .bf16) slices_S1024x10256_S1024x3072_0_0 : FVec Ideal S1024x3072 .bf16) := by
  simp only [V, hostOps0, hostOps0_1, hostOps0_2, List.flatten_cons, List.flatten_nil, List.append_nil, List.cons_append, List.nil_append]
  after_results
theorem V_wr : V m c main_v4 = (concatenate S1024x7168 1
    [⟨S1024x1024, extractStridedSlice S1024x1024 ![0, 3072] (truncf (F := Ideal) .bf16 (m ((c : Thread nD τ).loc main_arg2))
        bitsLt_bf16_f32 : FVec Ideal S1024x10256 .bf16) slices_S1024x10256_S1024x1024_0_3072⟩,
     ⟨S1024x6144, extractStridedSlice S1024x6144 ![0, 4112] (truncf (F := Ideal) .bf16 (m ((c : Thread nD τ).loc main_arg2))
        bitsLt_bf16_f32 : FVec Ideal S1024x10256 .bf16) slices_S1024x10256_S1024x6144_0_4112⟩]
    concatenates_S1024x1024_S1024x6144_S1024x7168_d1 : FVec Ideal S1024x7168 .bf16) := by
  simp only [V, hostOps0, hostOps0_1, hostOps0_2, List.flatten_cons, List.flatten_nil, List.append_nil, List.cons_append, List.nil_append]
  after_results
theorem V_ws : V m c main_v6 = (pad S1024x128 ![0, 0] ![0, 112] ![0, 0]
    (extractStridedSlice S1024x16 ![0, 4096] (truncf (F := Ideal) .bf16 (m ((c : Thread nD τ).loc main_arg2))
        bitsLt_bf16_f32 : FVec Ideal S1024x10256 .bf16) slices_S1024x10256_S1024x16_0_4096 : FVec Ideal S1024x16 .bf16)
    (sitofp (F := Ideal) .bf16 (constantI S_ 32 0#32)) pads_S1024x16_S1024x128_000_01120 h_S_ : FVec Ideal S1024x128 .bf16) := by
  simp only [V, hostOps0, hostOps0_1, hostOps0_2, List.flatten_cons, List.flatten_nil, List.append_nil, List.cons_append, List.nil_append]
  after_results
  rfl
theorem V_cs : V m c main_v11 = (concatenate S1x7168 1
    [⟨S1x1024, (broadcastInDim S1x1024 ![] bcast_S_S1x1024 (constant (F := Ideal) S_ .f32 0x3F800000#32) : FVec Ideal S1x1024 .f32)⟩,
     ⟨S1x1024, (broadcastInDim S1x1024 ![] bcast_S_S1x1024 (constant (F := Ideal) S_ .f32 0x3DB504F3#32) : FVec Ideal S1x1024 .f32)⟩,
     ⟨S1x5120, (broadcastInDim S1x5120 ![] bcast_S_S1x5120 (constant (F := Ideal) S_ .f32 0x3F800000#32) : FVec Ideal S1x5120 .f32)⟩]
    concatenates_S1x1024_S1x1024_S1x5120_S1x7168_d1 : FVec Ideal S1x7168 .f32) := by
  simp only [V, hostOps0, hostOps0_1, hostOps0_2, List.flatten_cons, List.flatten_nil, List.append_nil, List.cons_append, List.nil_append]
  after_results
  rfl

/-! ## Their entries -/

/-- Rows of a batch of sequences laid one under the other. -/
theorem x_read (x : Vec Ideal S4x8192x1024 .f32) (b : Fin 4) (s : Fin 8192) (R : Fin 32768) (k : Fin 1024)
    (h : R.val = 8192 * b.val + s.val) :
    shapeCast S32768x1024 x shapeCasts_S4x8192x1024_S32768x1024 (ix2 R k) = x (ix3 b s k) := by
  have hb : ∀ h, (⟨R.val / 8192, h⟩ : Fin 4) = b := fun _ => Fin.ext (by simp only; omega)
  have hs : ∀ h, (⟨R.val % 8192, h⟩ : Fin 8192) = s := fun _ => Fin.ext (by simp only; omega)
  pointwise []
  rw [hb, hs]

theorem n_read (x : Vec Ideal S1024 .f32) (k : Fin 1024) : shapeCast S1x1024 x shapeCasts_S1024_S1x1024 (ix2 0 k) = x (ix1 k) := by
  pointwise []

theorem wc_read (x : Vec Ideal S1024x10256 .f32) (k : Fin 1024) (j : Fin 3072) :
    extractStridedSlice S1024x3072 ![0, 0] (truncf (F := Ideal) .bf16 x bitsLt_bf16_f32) slices_S1024x10256_S1024x3072_0_0 (ix2 k j)
      = x (ix2 k ⟨j.val, by omega⟩) := by
  pointwise []

theorem wr_read (x : Vec Ideal S1024x10256 .f32) (k : Fin 1024) (j : Fin 7168) :
    concatenate S1024x7168 1
      [⟨S1024x1024, extractStridedSlice S1024x1024 ![0, 3072] (truncf (F := Ideal) .bf16 x bitsLt_bf16_f32 : FVec Ideal S1024x10256 .bf16)
          slices_S1024x10256_S1024x1024_0_3072⟩,
       ⟨S1024x6144, extractStridedSlice S1024x6144 ![0, 4112] (truncf (F := Ideal) .bf16 x bitsLt_bf16_f32 : FVec Ideal S1024x10256 .bf16)
          slices_S1024x10256_S1024x6144_0_4112⟩]
      concatenates_S1024x1024_S1024x6144_S1024x7168_d1 (ix2 k j) = x (ix2 k (rcol j)) := by
  pointwise []
  split
  · rename_i h
    have hc : rcol j = ⟨3072 + j.val, by omega⟩ := dif_pos h
    exact congrArg (fun q => x (ix2 k q)) hc.symm
  · rename_i h
    have hc : rcol j = ⟨3088 + j.val, by omega⟩ := dif_neg h
    exact congrArg (fun q => x (ix2 k q)) ((Fin.ext (by simp only; omega)).trans hc.symm)

theorem ws_read (x : Vec Ideal S1024x10256 .f32) (k : Fin 1024) (j : Fin 128) :
    pad S1024x128 ![0, 0] ![0, 112] ![0, 0] (extractStridedSlice S1024x16 ![0, 4096]
        (truncf (F := Ideal) .bf16 x bitsLt_bf16_f32 : FVec Ideal S1024x10256 .bf16) slices_S1024x10256_S1024x16_0_4096)
      (sitofp (F := Ideal) .bf16 (constantI S_ 32 0#32)) pads_S1024x16_S1024x128_000_01120 h_S_ (ix2 k j)
      = if h : j.val < 16 then x (ix2 k ⟨4096 + j.val, by omega⟩) else 0 := by
  pointwise []
  exact congrArg (fun z : EReal => if h : j.val < 16 then x (ix2 k ⟨4096 + j.val, by omega⟩) else z) word_zero

theorem cs_read (j : Fin 7168) : (concatenate S1x7168 1
    [⟨S1x1024, (broadcastInDim S1x1024 ![] bcast_S_S1x1024 (constant (F := Ideal) S_ .f32 0x3F800000#32) : FVec Ideal S1x1024 .f32)⟩,
     ⟨S1x1024, (broadcastInDim S1x1024 ![] bcast_S_S1x1024 (constant (F := Ideal) S_ .f32 0x3DB504F3#32) : FVec Ideal S1x1024 .f32)⟩,
     ⟨S1x5120, (broadcastInDim S1x5120 ![] bcast_S_S1x5120 (constant (F := Ideal) S_ .f32 0x3F800000#32) : FVec Ideal S1x5120 .f32)⟩]
    concatenates_S1x1024_S1x1024_S1x5120_S1x7168_d1 : FVec Ideal S1x7168 .f32) (ix2 0 j) = rscale j.val := by
  pointwise []
  unfold rscale
  split
  · rename_i h1
    rw [if_neg (by omega)]
  · rename_i h1
    split
    · rename_i h2
      rw [if_pos (by omega)]
    · rename_i h2
      rw [if_neg (by omega)]

/-! ## The blocks -/

/-- The block each window reads or writes at point `t`: the row tile is the point's quarter, the columns its remainder. -/
theorem idx_in : ∀ t : Fin cfg0.N, win0_0.index t = ![t.val / 4, 0] ∧ win0_1.index t = ![64 * (t.val / 4) - 1, 0]
    ∧ win0_2.index t = ![0, 0] ∧ win0_3.index t = ![0, t.val % 4] :=
  (by decide +kernel : ∀ t : Fin grid0.N, _)
theorem idx_in' : ∀ t : Fin cfg0.N, win0_4.index t = ![0, t.val % 4] ∧ win0_5.index t = ![0, t.val % 4]
    ∧ win0_6.index t = ![0, 0] ∧ win0_7.index t = ![0, t.val % 4] :=
  (by decide +kernel : ∀ t : Fin grid0.N, _)
theorem idx_out : ∀ t : Fin cfg0.N, win0_8.index t = ![t.val / 4, t.val % 4] ∧ win0_9.index t = ![t.val / 4, t.val % 4]
    ∧ win0_10.index t = ![t.val / 4, 0] ∧ (grid0.coords t 0).val = t.val / 4 :=
  (by decide +kernel : ∀ t : Fin grid0.N, _)

variable (t : Fin cfg0.N) (b : Fin 4) (s : Fin 8192) (k : Fin 1024)

theorem blk_x (r : Fin 1024) (h : 1024 * (t.val / 4) + r.val = 8192 * b.val + s.val) :
    iblk m c 0 t (ix2 r k) = m ((c : Thread nD τ).loc main_arg0) (ix3 b s k) := by
  show V m c main_v7 (((cfg0.win 0).blk t).view.emb (ix2 r k)) = _
  rw [show ((cfg0.win 0).blk t).view.emb (ix2 r k) = ix2 (⟨8192 * b.val + s.val, by omega⟩ : Fin 32768) k from ix2_of
    (show win0_0.index t 0 * 1024 + 1 * r.val = _ by rw [(idx_in t).1]; simp <;> omega)
    (show win0_0.index t 1 * 1024 + 1 * k.val = _ by rw [(idx_in t).1]; simp)]
  rw [V_x]; exact x_read _ b s _ k rfl
theorem blk_xh (r : Fin 16) (h : 16 * (64 * (t.val / 4) - 1) + r.val = 8192 * b.val + s.val) :
    iblk m c 1 t (ix2 r k) = m ((c : Thread nD τ).loc main_arg0) (ix3 b s k) := by
  show V m c main_v7 (((cfg0.win 1).blk t).view.emb (ix2 r k)) = _
  rw [show ((cfg0.win 1).blk t).view.emb (ix2 r k) = ix2 (⟨8192 * b.val + s.val, by omega⟩ : Fin 32768) k from ix2_of
    (show win0_1.index t 0 * 16 + 1 * r.val = _ by rw [(idx_in t).2.1]; simp <;> omega)
    (show win0_1.index t 1 * 1024 + 1 * k.val = _ by rw [(idx_in t).2.1]; simp)]
  rw [V_x]; exact x_read _ b s _ k rfl
theorem blk_nw : iblk m c 2 t (ix2 0 k) = m ((c : Thread nD τ).loc main_arg1) (ix1 k) := by
  show V m c main_v12 (((cfg0.win 2).blk t).view.emb (ix2 0 k)) = _
  rw [show ((cfg0.win 2).blk t).view.emb (ix2 0 k) = ix2 0 k from ix2_of
    (show win0_2.index t 0 * 1 + 1 * (0 : Fin 1).val = _ by rw [(idx_in t).2.2.1]; simp)
    (show win0_2.index t 1 * 1024 + 1 * k.val = _ by rw [(idx_in t).2.2.1]; simp)]
  rw [V_nw]; exact n_read _ k
theorem blk_wc (j : Fin 768) : iblk m c 3 t (ix2 k j)
    = m ((c : Thread nD τ).loc main_arg2) (ix2 k ⟨768 * (t.val % 4) + j.val, by omega⟩) := by
  show V m c main_v1 (((cfg0.win 3).blk t).view.emb (ix2 k j)) = _
  rw [show ((cfg0.win 3).blk t).view.emb (ix2 k j) = ix2 k (⟨768 * (t.val % 4) + j.val, by omega⟩ : Fin 3072) from ix2_of
    (show win0_3.index t 0 * 1024 + 1 * k.val = _ by rw [(idx_in t).2.2.2]; simp)
    (show win0_3.index t 1 * 768 + 1 * j.val = _ by rw [(idx_in t).2.2.2]; simp <;> omega)]
  rw [V_wc]; exact wc_read _ k _
theorem blk_wr (j : Fin 1792) : iblk m c 4 t (ix2 k j)
    = m ((c : Thread nD τ).loc main_arg2) (ix2 k (rcol ⟨1792 * (t.val % 4) + j.val, by omega⟩)) := by
  show V m c main_v4 (((cfg0.win 4).blk t).view.emb (ix2 k j)) = _
  rw [show ((cfg0.win 4).blk t).view.emb (ix2 k j) = ix2 k (⟨1792 * (t.val % 4) + j.val, by omega⟩ : Fin 7168) from ix2_of
    (show win0_4.index t 0 * 1024 + 1 * k.val = _ by rw [(idx_in' t).1]; simp)
    (show win0_4.index t 1 * 1792 + 1 * j.val = _ by rw [(idx_in' t).1]; simp <;> omega)]
  rw [V_wr]; exact wr_read _ k _
theorem blk_cs (j : Fin 1792) : iblk m c 5 t (ix2 0 j) = rscale (1792 * (t.val % 4) + j.val) := by
  show V m c main_v11 (((cfg0.win 5).blk t).view.emb (ix2 0 j)) = _
  rw [show ((cfg0.win 5).blk t).view.emb (ix2 0 j) = ix2 0 (⟨1792 * (t.val % 4) + j.val, by omega⟩ : Fin 7168) from ix2_of
    (show win0_5.index t 0 * 1 + 1 * (0 : Fin 1).val = _ by rw [(idx_in' t).2.1]; simp)
    (show win0_5.index t 1 * 1792 + 1 * j.val = _ by rw [(idx_in' t).2.1]; simp <;> omega)]
  rw [V_cs]; exact cs_read _
theorem blk_ws (j : Fin 128) : iblk m c 6 t (ix2 k j)
    = if h : j.val < 16 then (m ((c : Thread nD τ).loc main_arg2) (ix2 k ⟨4096 + j.val, by omega⟩) : EReal) else (0 : EReal) := by
  show V m c main_v6 (((cfg0.win 6).blk t).view.emb (ix2 k j)) = _
  rw [show ((cfg0.win 6).blk t).view.emb (ix2 k j) = ix2 k j from ix2_of
    (show win0_6.index t 0 * 1024 + 1 * k.val = _ by rw [(idx_in' t).2.2.1]; simp)
    (show win0_6.index t 1 * 128 + 1 * j.val = _ by rw [(idx_in' t).2.2.1]; simp)]
  rw [V_ws]; exact ws_read _ k _
theorem blk_cw (q : Fin 4) (j : Fin 768) : iblk m c 7 t (ix2 q j)
    = m ((c : Thread nD τ).loc main_arg3) (ix2 q ⟨768 * (t.val % 4) + j.val, by omega⟩) := by
  show V m c main_arg3 (((cfg0.win 7).blk t).view.emb (ix2 q j)) = _
  rw [show ((cfg0.win 7).blk t).view.emb (ix2 q j) = ix2 q (⟨768 * (t.val % 4) + j.val, by omega⟩ : Fin 3072) from ix2_of
    (show win0_7.index t 0 * 4 + 1 * q.val = _ by rw [(idx_in' t).2.2.2]; simp)
    (show win0_7.index t 1 * 768 + 1 * j.val = _ by rw [(idx_in' t).2.2.2]; simp <;> omega)]
  rw [V_main_arg3]

end Cert.Proof.InProj
-- ==== Proof.InProjValue.lean ====
module

public import proofs.«01_k».proof.Proof.InProjBlocks
public import proofs.«01_k».proof.Proof.InProjFrame
public import Idealize.ShloMosaic.Lib.Pipeline.ValueKit.Acc

/-! # What the input projection leaves

Each of the 32 row tiles is visited four times. A visit writes a quarter of the filtered columns and a quarter of the others
over the tile's rows; the small columns go out with the last. Beside the reference's arrays, entry by entry.
-/

@[expose] public section

noncomputable section
open Idealize.ShloMosaic Idealize.ShloMosaic.Tactic Idealize.ShloMosaic.TcCoe
namespace Cert.Proof.InProj
open Cert.InProjIdeal Cert.InProjIdeal.Gen Cert.InProjIdeal.Hand
variable (m : (ℓ : Loc nD τ sig) → Buf (Elt Ideal) ℓ) (c : Dev nD)

/-- The arguments at launch: the activations, the norm's weights, the projection's weight, the filter. -/
abbrev a0 : Vec Ideal ⟨3, ![4, 8192, 1024]⟩ .f32 := m ((c : Thread nD τ).loc main_arg0)
abbrev a1 : Vec Ideal ⟨1, ![1024]⟩ .f32 := m ((c : Thread nD τ).loc main_arg1)
abbrev a2 : Vec Ideal ⟨2, ![1024, 10256]⟩ .f32 := m ((c : Thread nD τ).loc main_arg2)
abbrev a3 : Vec Ideal ⟨2, ![4, 3072]⟩ .f32 := m ((c : Thread nD τ).loc main_arg3)

variable (t : Fin cfg0.N) (b : Fin 4) (s : Fin 8192)

theorem base_div : (base t).val / 4 = t.val / 4 := by simp only [base]; omega

/-- The row tile at a point, normalised. -/
theorem hAt_at (r k : Fin 1024) (h : 1024 * (t.val / 4) + r.val = 8192 * b.val + s.val) :
    hAt m c t (ix2 r k) = nrm (fun d => a0 m c (ix3 b s d)) (fun d => a1 m c (ix1 d)) k := by
  unfold hAt
  rw [hTile_at]
  have hx : ∀ d, iblk m c 0 (base t) (ix2 r d) = a0 m c (ix3 b s d) := fun d => blk_x m c (base t) b s d r (by rw [base_div]; exact h)
  have hn : ∀ d, iblk m c 2 (base t) (ix2 0 d) = a1 m c (ix1 d) := fun d => blk_nw m c (base t) d
  simp only [hx, hn]

/-- The sixteen rows before it. -/
theorem haloAt_at (r : Fin 16) (k : Fin 1024) (h : 16 * (64 * (t.val / 4) - 1) + r.val = 8192 * b.val + s.val) :
    haloAt m c t (ix2 r k) = if t.val / 4 % 8 = 0 then 0 else nrm (fun d => a0 m c (ix3 b s d)) (fun d => a1 m c (ix1 d)) k := by
  unfold haloAt
  rw [haloTile_at, (idx_out (base t)).2.2.2, base_div]
  have hx : ∀ d, iblk m c 1 (base t) (ix2 r d) = a0 m c (ix3 b s d) := fun d => blk_xh m c (base t) b s d r (by rw [base_div]; exact h)
  have hn : ∀ d, iblk m c 2 (base t) (ix2 0 d) = a1 m c (ix1 d) := fun d => blk_nw m c (base t) d
  simp only [hx, hn]

/-- The projected rows a filter reads are the reference's, zeros before the sequence included. -/
theorem rows_at (r : Fin 1024) (j : Fin 768) (q : Fin 4) (h : 1024 * (t.val / 4) + r.val = 8192 * b.val + s.val) :
    rows (hAt m c t) (haloAt m c t) (iblk m c 3 t) j (13 + r.val + q.val)
      = late (a0 m c) (a1 m c) (a2 m c) b (s.val + q.val) ⟨768 * (t.val % 4) + j.val, by omega⟩ := by
  have ht : t.val < 128 := lt_of_lt_of_eq t.isLt N_0
  have hw : ∀ k, iblk m c 3 t (ix2 k j) = a2 m c (ix2 k ⟨768 * (t.val % 4) + j.val, by omega⟩) := fun k => blk_wc m c t k j
  unfold rows
  by_cases hn : 13 + r.val + q.val < 16
  · rw [dif_pos hn]
    by_cases ho : t.val / 4 % 8 = 0
    · have hz : ∀ k, haloAt m c t (ix2 ⟨13 + r.val + q.val, hn⟩ k) = 0 := fun k => by
        unfold haloAt
        rw [haloTile_at, (idx_out (base t)).2.2.2, base_div, if_pos ho]
      simp only [hz, zero_mul, Finset.sum_const_zero]
      unfold late
      rw [dif_neg (by omega)]
    · have hl : 3 ≤ s.val + q.val ∧ s.val + q.val - 3 < 8192 := by omega
      have hh : ∀ k, haloAt m c t (ix2 ⟨13 + r.val + q.val, hn⟩ k)
          = nrm (fun d => a0 m c (ix3 b ⟨s.val + q.val - 3, hl.2⟩ d)) (fun d => a1 m c (ix1 d)) k := fun k => by
        rw [haloAt_at m c t b ⟨s.val + q.val - 3, hl.2⟩ _ k (by simp only; omega), if_neg ho]
      simp only [hh, hw]
      unfold late
      rw [dif_pos hl]
      rfl
  · rw [dif_neg hn, dif_pos (show 13 + r.val + q.val - 16 < 1024 by omega)]
    have hl : 3 ≤ s.val + q.val ∧ s.val + q.val - 3 < 8192 := by omega
    have hh : ∀ k, hAt m c t (ix2 ⟨13 + r.val + q.val - 16, by omega⟩ k)
        = nrm (fun d => a0 m c (ix3 b ⟨s.val + q.val - 3, hl.2⟩ d)) (fun d => a1 m c (ix1 d)) k := fun k =>
      hAt_at m c t b ⟨s.val + q.val - 3, hl.2⟩ _ k (by simp only; omega)
    simp only [hh, hw]
    unfold late
    rw [dif_pos hl]
    rfl

/-! ## The reference's arrays, and what each point writes of them -/

def result0 : Buf (Elt Ideal) ((c : Thread nD τ).loc main_v13_0) :=
  Cert.InProjRefIdeal.Read.val_main_v54 (F := Ideal) (a0 m c) (a1 m c) (a2 m c) (a3 m c)
def result1 : Buf (Elt Ideal) ((c : Thread nD τ).loc main_v13_1) :=
  Cert.InProjRefIdeal.Read.val_main_v56 (F := Ideal) (a0 m c) (a1 m c) (a2 m c)
def result2 : Buf (Elt Ideal) ((c : Thread nD τ).loc main_v13_2) :=
  Cert.InProjRefIdeal.Read.val_main_v57 (F := Ideal) (a0 m c) (a1 m c) (a2 m c)

/-- The weights are real numbers. -/
structure Weights : Prop where
  norm : ∀ i, IsReal (a1 m c i)
  proj : ∀ i, IsReal (a2 m c i)
  filt : ∀ i, IsReal (a3 m c i)

/-- The filtered columns of a tile. -/
theorem conv_at (hw : Weights m c) (r : Fin 1024) (j : Fin 768) (h : 1024 * (t.val / 4) + r.val = 8192 * b.val + s.val) :
    convTile (hAt m c t) (haloAt m c t) (iblk m c 3 t) (iblk m c 7 t) (ix2 r j)
      = silu (taps (fun q => late (a0 m c) (a1 m c) (a2 m c) b (s.val + q.val) ⟨768 * (t.val % 4) + j.val, by omega⟩)
          (fun q => a3 m c (ix2 q ⟨768 * (t.val % 4) + j.val, by omega⟩))) := by
  have hr : (fun q : Fin 4 => rows (hAt m c t) (haloAt m c t) (iblk m c 3 t) j (13 + r.val + q.val)) = _ :=
    funext fun q => rows_at m c t b s r j q h
  have hc : (fun q : Fin 4 => iblk m c 7 t (ix2 q j)) = fun q => a3 m c (ix2 q ⟨768 * (t.val % 4) + j.val, by omega⟩) :=
    funext fun q => blk_cw m c t q j
  refine (convTile_at _ _ _ _ r j).trans ?_
  refine (congrArg₂ (fun f g => tsilu (taps f g)) hr hc).trans ?_
  exact tsilu_eq (taps_real (a0 m c) (a1 m c) (a2 m c) (a3 m c) hw.norm hw.proj hw.filt b s _ _)

theorem flushed8 (hw : Weights m c) : (dats m 0 c).flushed 8 t = ((cfg0.win 8).blk t).view.read (Elt Ideal) (result0 m c) := by
  show (cfg0.win 8).cut (grid0.coords t) ((dats m 0 c).after 8 t) = _
  rw [after0_8]
  funext y
  have ht : t.val < 128 := lt_of_lt_of_eq t.isLt N_0
  have hy0 : (y 0).val < 1024 := (y 0).isLt
  have hy1 : (y 1).val < 768 := (y 1).isLt
  show convTile _ _ _ _ ((cfg0.win 8).xinj (grid0.coords t) y) = result0 m c (((cfg0.win 8).blk t).view.emb y)
  rw [show (cfg0.win 8).xinj (grid0.coords t) y = ix2 ⟨(y 0).val, hy0⟩ ⟨(y 1).val, hy1⟩ from ix2_of rfl rfl,
    show ((cfg0.win 8).blk t).view.emb y = ix2 ⟨1024 * (t.val / 4) + (y 0).val, by omega⟩ ⟨768 * (t.val % 4) + (y 1).val, by omega⟩ from ix2_of
      (show win0_8.index t 0 * 1024 + 1 * (y 0).val = _ by rw [(idx_out t).1]; simp <;> omega)
      (show win0_8.index t 1 * 768 + 1 * (y 1).val = _ by rw [(idx_out t).1]; simp <;> omega)]
  have hb : (1024 * (t.val / 4) + (y 0).val) / 8192 < 4 := by omega
  have hs : (1024 * (t.val / 4) + (y 0).val) % 8192 < 8192 := by omega
  have hR : 1024 * (t.val / 4) + (⟨(y 0).val, hy0⟩ : Fin 1024).val = 8192 * (⟨_, hb⟩ : Fin 4).val + (⟨_, hs⟩ : Fin 8192).val := by
    simp only; omega
  have e1 := conv_at m c t ⟨_, hb⟩ ⟨_, hs⟩ hw ⟨(y 0).val, hy0⟩ ⟨(y 1).val, hy1⟩ hR
  have e2 := val54_at (a0 m c) (a1 m c) (a2 m c) (a3 m c) ⟨_, hb⟩ ⟨_, hs⟩ ⟨1024 * (t.val / 4) + (y 0).val, by omega⟩ hR
    ⟨768 * (t.val % 4) + (y 1).val, by omega⟩
  exact e1.trans e2.symm

theorem flushed9 : (dats m 0 c).flushed 9 t = ((cfg0.win 9).blk t).view.read (Elt Ideal) (result1 m c) := by
  show (cfg0.win 9).cut (grid0.coords t) ((dats m 0 c).after 9 t) = _
  rw [after0_9]
  funext y
  have ht : t.val < 128 := lt_of_lt_of_eq t.isLt N_0
  have hy0 : (y 0).val < 1024 := (y 0).isLt
  have hy1 : (y 1).val < 1792 := (y 1).isLt
  show restTile _ _ _ ((cfg0.win 9).xinj (grid0.coords t) y) = result1 m c (((cfg0.win 9).blk t).view.emb y)
  rw [show (cfg0.win 9).xinj (grid0.coords t) y = ix2 ⟨(y 0).val, hy0⟩ ⟨(y 1).val, hy1⟩ from ix2_of rfl rfl,
    show ((cfg0.win 9).blk t).view.emb y = ix2 ⟨1024 * (t.val / 4) + (y 0).val, by omega⟩ ⟨1792 * (t.val % 4) + (y 1).val, by omega⟩ from ix2_of
      (show win0_9.index t 0 * 1024 + 1 * (y 0).val = _ by rw [(idx_out t).2.1]; simp <;> omega)
      (show win0_9.index t 1 * 1792 + 1 * (y 1).val = _ by rw [(idx_out t).2.1]; simp <;> omega)]
  have hb : (1024 * (t.val / 4) + (y 0).val) / 8192 < 4 := by omega
  have hs : (1024 * (t.val / 4) + (y 0).val) % 8192 < 8192 := by omega
  have hR : 1024 * (t.val / 4) + (⟨(y 0).val, hy0⟩ : Fin 1024).val = 8192 * (⟨_, hb⟩ : Fin 4).val + (⟨_, hs⟩ : Fin 8192).val := by
    simp only; omega
  rw [restTile_at, result1, val56_at _ _ _ ⟨_, hb⟩ ⟨_, hs⟩ _ hR]
  have hh := fun k => hAt_at m c t ⟨_, hb⟩ ⟨_, hs⟩ ⟨(y 0).val, hy0⟩ k hR
  have hw : ∀ k, iblk m c 4 t (ix2 k ⟨(y 1).val, hy1⟩) = a2 m c (ix2 k (rcol ⟨1792 * (t.val % 4) + (y 1).val, by omega⟩)) :=
    fun k => blk_wr m c t k _
  have hc : iblk m c 5 t (ix2 0 ⟨(y 1).val, hy1⟩) = rscale (1792 * (t.val % 4) + (y 1).val) := blk_cs m c t _
  simp only [hh, hw, hc]
  rfl

theorem flushed10 : (dats m 0 c).flushed 10 t = ((cfg0.win 10).blk t).view.read (Elt Ideal) (result2 m c) := by
  show (cfg0.win 10).cut (grid0.coords t) ((dats m 0 c).after 10 t) = _
  rw [after0_10]
  funext y
  have ht : t.val < 128 := lt_of_lt_of_eq t.isLt N_0
  have hy0 : (y 0).val < 1024 := (y 0).isLt
  have hy1 : (y 1).val < 128 := (y 1).isLt
  show smallAt m c t ((cfg0.win 10).xinj (grid0.coords t) y) = result2 m c (((cfg0.win 10).blk t).view.emb y)
  rw [show (cfg0.win 10).xinj (grid0.coords t) y = ix2 ⟨(y 0).val, hy0⟩ ⟨(y 1).val, hy1⟩ from ix2_of rfl rfl,
    show ((cfg0.win 10).blk t).view.emb y = ix2 ⟨1024 * (t.val / 4) + (y 0).val, by omega⟩ ⟨(y 1).val, hy1⟩ from ix2_of
      (show win0_10.index t 0 * 1024 + 1 * (y 0).val = _ by rw [(idx_out t).2.2.1]; simp <;> omega)
      (show win0_10.index t 1 * 128 + 1 * (y 1).val = _ by rw [(idx_out t).2.2.1]; simp)]
  have hb : (1024 * (t.val / 4) + (y 0).val) / 8192 < 4 := by omega
  have hs : (1024 * (t.val / 4) + (y 0).val) % 8192 < 8192 := by omega
  have hR : 1024 * (t.val / 4) + (⟨(y 0).val, hy0⟩ : Fin 1024).val = 8192 * (⟨_, hb⟩ : Fin 4).val + (⟨_, hs⟩ : Fin 8192).val := by
    simp only; omega
  unfold smallAt
  rw [smallTile_at, result2, val57_at _ _ _ ⟨_, hb⟩ ⟨_, hs⟩ _ hR]
  have hx : ∀ d, iblk m c 0 (base t) (ix2 ⟨(y 0).val, hy0⟩ d) = a0 m c (ix3 ⟨_, hb⟩ ⟨_, hs⟩ d) :=
    fun d => blk_x m c (base t) _ _ d _ (by rw [base_div]; exact hR)
  have hn : ∀ d, iblk m c 2 (base t) (ix2 0 d) = a1 m c (ix1 d) := fun d => blk_nw m c (base t) d
  have hw : ∀ k, iblk m c 6 (base t) (ix2 k ⟨(y 1).val, hy1⟩) = _ := fun k => blk_ws m c (base t) k _
  simp only [hx, hn, hw]
  by_cases hj : (y 1).val < 16
  · simp only [dif_pos hj]
    rfl
  · simp only [dif_neg hj, mul_zero, Finset.sum_const_zero]

/-! ## The arrays after the run -/

theorem mem8 (i : S32768x3072.Idx) : i ∈ ((cfg0.win 8).blk t).view.set ↔ ∀ a : Fin 2, win0_8.index t a * S1024x768.size a ≤ (i a).val
      ∧ (i a).val < win0_8.index t a * S1024x768.size a + S1024x768.size a := by
  show i ∈ ((View.whole main_v13_0).slice (win0_8.rect t)).set ↔ _
  rw [View.set_slice_whole, Rect.mem_set_unit]
  exact Iff.rfl
theorem mem9 (i : S32768x7168.Idx) : i ∈ ((cfg0.win 9).blk t).view.set ↔ ∀ a : Fin 2, win0_9.index t a * S1024x1792.size a ≤ (i a).val
      ∧ (i a).val < win0_9.index t a * S1024x1792.size a + S1024x1792.size a := by
  show i ∈ ((View.whole main_v13_1).slice (win0_9.rect t)).set ↔ _
  rw [View.set_slice_whole, Rect.mem_set_unit]
  exact Iff.rfl
theorem mem10 (i : S32768x128.Idx) : i ∈ ((cfg0.win 10).blk t).view.set ↔ ∀ a : Fin 2, win0_10.index t a * S1024x128.size a ≤ (i a).val
      ∧ (i a).val < win0_10.index t a * S1024x128.size a + S1024x128.size a := by
  show i ∈ ((View.whole main_v13_2).slice (win0_10.rect t)).set ↔ _
  rw [View.set_slice_whole, Rect.mem_set_unit]
  exact Iff.rfl

theorem final8 (hw : Weights m c) : (dats m 0 c).arrAt 8 cfg0.N = result0 m c :=
  (dats m 0 c).arrAt_eq_of_cover 8 _ (fun t _ => flushed8 m c t hw) (fun (i : S32768x3072.Idx) => by
    have hi0 : (i 0).val < 32768 := (i 0).isLt
    have hi1 : (i 1).val < 3072 := (i 1).isLt
    have hN : 4 * ((i 0).val / 1024) + (i 1).val / 768 < cfg0.N := lt_of_lt_of_eq (by omega) N_0.symm
    refine ⟨⟨_, hN⟩, flush0_8 _, (mem8 _ i).2 fun a => ?_⟩
    have h := (idx_out ⟨_, hN⟩).1
    match a with
    | ⟨0, _⟩ =>
      show win0_8.index _ (0 : Fin 2) * 1024 ≤ (i 0).val ∧ (i 0).val < win0_8.index _ (0 : Fin 2) * 1024 + 1024
      rw [h]; simp <;> omega
    | ⟨1, _⟩ =>
      show win0_8.index _ (1 : Fin 2) * 768 ≤ (i 1).val ∧ (i 1).val < win0_8.index _ (1 : Fin 2) * 768 + 768
      rw [h]; simp <;> omega)
theorem final9 : (dats m 0 c).arrAt 9 cfg0.N = result1 m c :=
  (dats m 0 c).arrAt_eq_of_cover 9 _ (fun t _ => flushed9 m c t) (fun (i : S32768x7168.Idx) => by
    have hi0 : (i 0).val < 32768 := (i 0).isLt
    have hi1 : (i 1).val < 7168 := (i 1).isLt
    have hN : 4 * ((i 0).val / 1024) + (i 1).val / 1792 < cfg0.N := lt_of_lt_of_eq (by omega) N_0.symm
    refine ⟨⟨_, hN⟩, flush0_9 _, (mem9 _ i).2 fun a => ?_⟩
    have h := (idx_out ⟨_, hN⟩).2.1
    match a with
    | ⟨0, _⟩ =>
      show win0_9.index _ (0 : Fin 2) * 1024 ≤ (i 0).val ∧ (i 0).val < win0_9.index _ (0 : Fin 2) * 1024 + 1024
      rw [h]; simp <;> omega
    | ⟨1, _⟩ =>
      show win0_9.index _ (1 : Fin 2) * 1792 ≤ (i 1).val ∧ (i 1).val < win0_9.index _ (1 : Fin 2) * 1792 + 1792
      rw [h]; simp <;> omega)
theorem final10 : (dats m 0 c).arrAt 10 cfg0.N = result2 m c :=
  (dats m 0 c).arrAt_eq_of_cover 10 _ (fun t _ => flushed10 m c t) (fun (i : S32768x128.Idx) => by
    have hi0 : (i 0).val < 32768 := (i 0).isLt
    have hi1 : (i 1).val < 128 := (i 1).isLt
    have hN : 4 * ((i 0).val / 1024) + 3 < cfg0.N := lt_of_lt_of_eq (by omega) N_0.symm
    refine ⟨⟨_, hN⟩, (flush0_10 _).2 (by simp only; omega), (mem10 _ i).2 fun a => ?_⟩
    have h := (idx_out ⟨_, hN⟩).2.2.1
    match a with
    | ⟨0, _⟩ =>
      show win0_10.index _ (0 : Fin 2) * 1024 ≤ (i 0).val ∧ (i 0).val < win0_10.index _ (0 : Fin 2) * 1024 + 1024
      rw [h]; simp <;> omega
    | ⟨1, _⟩ =>
      show win0_10.index _ (1 : Fin 2) * 128 ≤ (i 1).val ∧ (i 1).val < win0_10.index _ (1 : Fin 2) * 128 + 128
      rw [h]; simp <;> omega)

/-- The run, its three results named. -/
theorem run (ρ : Dev nD → PrngReg) : θ_run (defs (F := Ideal)) (onTc (τ := τ) (main (F := Ideal))) ⟨m, fun _ => 0, ρ⟩ fun r => ∀ c : Dev nD,
      r.2.mem ((c : Thread nD τ).loc main_v13_0) = (dats m 0 c).arrAt 8 cfg0.N
      ∧ r.2.mem ((c : Thread nD τ).loc main_v13_1) = (dats m 0 c).arrAt 9 cfg0.N
      ∧ r.2.mem ((c : Thread nD τ).loc main_v13_2) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h.1 c).1 8, (h.1 c).1 9, (h.1 c).1 10, h.2.1 c⟩) (θ_run_and (run_main m ρ) (frame m ρ))

end Cert.Proof.InProj
-- ==== Proof.InProjPre.lean ====
module

public import proofs.«01_k».proof.Proof.InProjValue
public import proofs.«01_k».proof.Defs
public import proofs.«01_k».proof.Proof.Gen.InProjIdeal
public import proofs.«01_k».proof.Proof.Gen.Pre_finite_weights

/-! # The precondition, read

The precondition compares the magnitudes of the weights with the infinite word; what is below it is a real number.
-/

@[expose] public section

noncomputable section
open Idealize.ShloMosaic Idealize.ShloMosaic.Tactic Idealize.ShloMosaic.TcCoe
namespace Cert.Proof.InProj

theorem top_word : Ideal.ofBits .f32 2139095040#32 = ⊤ := by
  simp [Ideal.ofBits, Ideal.ieee]

/-- A magnitude below the infinite word is a real number's. -/
theorem real_of_lt {x : EReal} (h : BitVec.ofBool (decide (FloatOps.absf (F := Ideal) (φ := .f32) x < Ideal.ofBits .f32 2139095040#32)) = 1#1) :
    IsReal x := by
  have h' : max x (-x) < ⊤ := by
    rw [← top_word]
    by_contra hn
    rw [show FloatOps.absf (F := Ideal) (φ := .f32) x = max x (-x) from rfl, decide_eq_false hn] at h
    exact absurd h (by decide)
  induction x with
  | bot => simp at h'
  | top => simp at h'
  | coe r => exact ⟨r, rfl⟩

section
variable (x0 : Vec Ideal ⟨3, ![4, 8192, 1024]⟩ .f32) (x1 : Vec Ideal ⟨1, ![1024]⟩ .f32) (x2 : Vec Ideal ⟨2, ![1024, 10256]⟩ .f32)
    (x3 : Vec Ideal ⟨2, ![4, 3072]⟩ .f32)

theorem pre_norm (h : (Cert.Pre_finite_weights.fn (F := Ideal) x0 x1 x2 x3).1 = fun _ => 1#1) (i : (⟨1, ![1024]⟩ : Shape).Idx) :
    IsReal (x1 i) :=
  real_of_lt (congrFun h i)

theorem pre_proj (h : (Cert.Pre_finite_weights.fn (F := Ideal) x0 x1 x2 x3).2.1 = fun _ => 1#1) (i : (⟨2, ![1024, 10256]⟩ : Shape).Idx) :
    IsReal (x2 i) :=
  real_of_lt (congrFun h i)

theorem pre_filt (h : (Cert.Pre_finite_weights.fn (F := Ideal) x0 x1 x2 x3).2.2 = fun _ => 1#1) (i : (⟨2, ![4, 3072]⟩ : Shape).Idx) :
    IsReal (x3 i) :=
  real_of_lt (congrFun h i)
end

/-- Under the precondition the weights are real. -/
theorem weights (m : (ℓ : Loc Cert.InProjIdeal.nD Cert.InProjIdeal.τ Cert.InProjIdeal.sig) → Buf (Elt Ideal) ℓ)
    (h : Cert.Pre_InProjIdeal_finite_weights m) (c : Dev Cert.InProjIdeal.nD) : Weights m c :=
  ⟨pre_norm _ _ _ _ (h c).1, pre_proj _ _ _ _ (h c).2.1, pre_filt _ _ _ _ (h c).2.2⟩

end Cert.Proof.InProj
-- ==== Proof.MergeValue.lean ====
module

public import proofs.«01_k».proof.Proof.MergeRow
public import Idealize.ShloMosaic.Lib.Claim

/-! # What the merge leaves

The grid's 64 points each write 512 whole rows of the result. Here the blocks each point reads are located in the
arguments, the row a point computes is set beside the reference's row, and the array after the run is the reference's.
-/

@[expose] public section

noncomputable section
open Idealize.ShloMosaic Idealize.ShloMosaic.Tactic Idealize.ShloMosaic.TcCoe
namespace Cert.Proof.Merge
open Cert.MergeIdeal Cert.MergeIdeal.Gen
variable (m : (ℓ : Loc nD τ sig) → Buf (Elt Ideal) ℓ) (c : Dev nD)

/-! ## What the host operations before the region leave -/

theorem V_x : V m c main_v0 = shapeCast _ (m ((c : Thread nD τ).loc main_arg3)) shapeCasts_S4x8192x1024_S32768x1024 := by
  unfold_abbrev_sides
  after_results
  rfl
theorem V_ya : V m c main_v1 = shapeCast _ (m ((c : Thread nD τ).loc main_arg0)) shapeCasts_S4x8192x1024_S32768x1024 := by
  unfold_abbrev_sides
  after_results
  rfl
theorem V_yb : V m c main_v2 = shapeCast _ (m ((c : Thread nD τ).loc main_arg1)) shapeCasts_S4x8192x1024_S32768x1024 := by
  unfold_abbrev_sides
  after_results
  rfl
theorem V_w0 : V m c main_v5 = (truncf (F := Ideal) .bf16 (shapeCast S1024x1024 (extractStridedSlice S1x1024x1024 ![0, 0, 0]
    (m ((c : Thread nD τ).loc main_arg5)) slices_S2x1024x1024_S1x1024x1024_0_0_0) shapeCasts_S1x1024x1024_S1024x1024)
    bitsLt_bf16_f32 : FVec Ideal S1024x1024 .bf16) := by
  unfold_abbrev_sides
  after_results
  rfl
theorem V_w1 : V m c main_v8 = (truncf (F := Ideal) .bf16 (shapeCast S1024x1024 (extractStridedSlice S1x1024x1024 ![1, 0, 0]
    (m ((c : Thread nD τ).loc main_arg5)) slices_S2x1024x1024_S1x1024x1024_1_0_0) shapeCasts_S1x1024x1024_S1024x1024)
    bitsLt_bf16_f32 : FVec Ideal S1024x1024 .bf16) := by
  unfold_abbrev_sides
  after_results
  rfl
theorem V_wo : V m c main_v9 = (truncf (F := Ideal) .bf16 (m ((c : Thread nD τ).loc main_arg6)) bitsLt_bf16_f32 : FVec Ideal S1024x1024 .bf16) := by
  unfold_abbrev_sides
  after_results
theorem V_b0 : V m c main_v10 = shapeCast _ (m ((c : Thread nD τ).loc main_arg4)) shapeCasts_S2048_S1x2048 := by
  unfold_abbrev_sides
  after_results
  rfl
theorem V_b1 : V m c main_v11 = shapeCast _ (m ((c : Thread nD τ).loc main_arg4)) shapeCasts_S2048_S1x2048 := by
  unfold_abbrev_sides
  after_results
  rfl
theorem V_nw : V m c main_v12 = shapeCast _ (m ((c : Thread nD τ).loc main_arg7)) shapeCasts_S1024_S1x1024 := by
  unfold_abbrev_sides
  after_results
  rfl

/-! ## The blocks -/

/-- A matrix index is its two coordinates. -/
theorem ix2_of {n k : ℕ} {j : (⟨2, ![n, k]⟩ : Shape).Idx} {a : Fin n} {b : Fin k} (h0 : (j 0).val = a.val) (h1 : (j 1).val = b.val) :
    j = ix2 a b := by
  funext i
  apply Fin.ext
  match i with
  | ⟨0, _⟩ => exact h0
  | ⟨1, _⟩ => exact h1

/-- The block each window reads at point `t`: the row blocks move with the point, the parameters stay. -/
theorem idx_rows : ∀ t : Fin cfg0.N, win0_0.index t = ![t.val, 0] ∧ win0_1.index t = ![t.val, 0] ∧ win0_2.index t = ![t.val, 5]
    ∧ win0_3.index t = ![t.val, 6] ∧ win0_4.index t = ![t.val, 0] ∧ win0_11.index t = ![t.val, 0] :=
  (by decide +kernel : ∀ t : Fin grid0.N, _)
theorem idx_params : ∀ t : Fin cfg0.N, win0_5.index t = ![0, 0] ∧ win0_6.index t = ![0, 0] ∧ win0_7.index t = ![0, 0]
    ∧ win0_8.index t = ![0, 0] ∧ win0_9.index t = ![0, 1] ∧ win0_10.index t = ![0, 0] :=
  (by decide +kernel : ∀ t : Fin grid0.N, _)

/-- Rows of a batch of sequences laid one under the other. -/
theorem flat_read {e : EltTy} (x : Vec Ideal S4x8192x1024 e) (b : Fin 4) (s : Fin 8192) (R : Fin 32768) (k : Fin 1024)
    (h : R.val = 8192 * b.val + s.val) :
    shapeCast S32768x1024 x shapeCasts_S4x8192x1024_S32768x1024 (ix2 R k) = x (ix3 b s k) := by
  have hb : ∀ h, (⟨R.val / 8192, h⟩ : Fin 4) = b := fun _ => Fin.ext (by simp only; omega)
  have hs : ∀ h, (⟨R.val % 8192, h⟩ : Fin 8192) = s := fun _ => Fin.ext (by simp only; omega)
  pointwise []
  rw [hb, hs]
/-- One branch weight cut from the pair. -/
theorem w_read (x : Vec Ideal S2x1024x1024 .f32) (k d : Fin 1024) :
    truncf (F := Ideal) .bf16 (shapeCast S1024x1024 (extractStridedSlice S1x1024x1024 ![0, 0, 0] x
      slices_S2x1024x1024_S1x1024x1024_0_0_0) shapeCasts_S1x1024x1024_S1024x1024) bitsLt_bf16_f32 (ix2 k d) = x (ix3 0 k d) ∧
    truncf (F := Ideal) .bf16 (shapeCast S1024x1024 (extractStridedSlice S1x1024x1024 ![1, 0, 0] x
      slices_S2x1024x1024_S1x1024x1024_1_0_0) shapeCasts_S1x1024x1024_S1024x1024) bitsLt_bf16_f32 (ix2 k d) = x (ix3 1 k d) := by
  constructor <;> pointwise []
theorem wo_read (x : Vec Ideal S1024x1024 .f32) (k d : Fin 1024) :
    truncf (F := Ideal) .bf16 x bitsLt_bf16_f32 (ix2 k d) = x (ix2 k d) := by
  pointwise []
theorem bias_read (x : Vec Ideal S2048 .f32) (k : Fin 2048) : shapeCast S1x2048 x shapeCasts_S2048_S1x2048 (ix2 0 k) = x (ix1 k) := by
  pointwise []
theorem nw_read (x : Vec Ideal S1024 .f32) (k : Fin 1024) : shapeCast S1x1024 x shapeCasts_S1024_S1x1024 (ix2 0 k) = x (ix1 k) := by
  pointwise []

variable (t : Fin cfg0.N) (r : Fin 512) (k d : Fin 1024) (b : Fin 4) (s : Fin 8192) (R : Fin 32768)

theorem blk_ya (hR : R.val = 512 * t.val + r.val) (h : R.val = 8192 * b.val + s.val) :
    iblk m c 0 t (ix2 r k) = m ((c : Thread nD τ).loc main_arg0) (ix3 b s k) := by
  show V m c main_v1 (((cfg0.win 0).blk t).view.emb (ix2 r k)) = _
  rw [show ((cfg0.win 0).blk t).view.emb (ix2 r k) = ix2 R k from ix2_of
    (show win0_0.index t 0 * 512 + 1 * (r : Fin 512).val = _ by rw [(idx_rows t).1]; simp <;> omega)
    (show win0_0.index t 1 * 1024 + 1 * k.val = _ by rw [(idx_rows t).1]; simp)]
  rw [V_ya]; exact flat_read _ b s R k h
theorem blk_yb (hR : R.val = 512 * t.val + r.val) (h : R.val = 8192 * b.val + s.val) :
    iblk m c 1 t (ix2 r k) = m ((c : Thread nD τ).loc main_arg1) (ix3 b s k) := by
  show V m c main_v2 (((cfg0.win 1).blk t).view.emb (ix2 r k)) = _
  rw [show ((cfg0.win 1).blk t).view.emb (ix2 r k) = ix2 R k from ix2_of
    (show win0_1.index t 0 * 512 + 1 * (r : Fin 512).val = _ by rw [(idx_rows t).2.1]; simp <;> omega)
    (show win0_1.index t 1 * 1024 + 1 * k.val = _ by rw [(idx_rows t).2.1]; simp)]
  rw [V_yb]; exact flat_read _ b s R k h
theorem blk_x (hR : R.val = 512 * t.val + r.val) (h : R.val = 8192 * b.val + s.val) :
    iblk m c 4 t (ix2 r k) = m ((c : Thread nD τ).loc main_arg3) (ix3 b s k) := by
  show V m c main_v0 (((cfg0.win 4).blk t).view.emb (ix2 r k)) = _
  rw [show ((cfg0.win 4).blk t).view.emb (ix2 r k) = ix2 R k from ix2_of
    (show win0_4.index t 0 * 512 + 1 * (r : Fin 512).val = _ by rw [(idx_rows t).2.2.2.2.1]; simp <;> omega)
    (show win0_4.index t 1 * 1024 + 1 * k.val = _ by rw [(idx_rows t).2.2.2.2.1]; simp)]
  rw [V_x]; exact flat_read _ b s R k h
theorem blk_g0 (hR : R.val = 512 * t.val + r.val) :
    iblk m c 2 t (ix2 r k) = m ((c : Thread nD τ).loc main_arg2) (ix2 R ⟨5120 + k.val, by omega⟩) := by
  show V m c main_arg2 (((cfg0.win 2).blk t).view.emb (ix2 r k)) = _
  rw [show ((cfg0.win 2).blk t).view.emb (ix2 r k) = ix2 R ⟨5120 + k.val, by omega⟩ from ix2_of
    (show win0_2.index t 0 * 512 + 1 * (r : Fin 512).val = _ by rw [(idx_rows t).2.2.1]; simp <;> omega)
    (show win0_2.index t 1 * 1024 + 1 * k.val = _ by rw [(idx_rows t).2.2.1]; simp <;> omega)]
  rw [V_main_arg2]
theorem blk_g1 (hR : R.val = 512 * t.val + r.val) :
    iblk m c 3 t (ix2 r k) = m ((c : Thread nD τ).loc main_arg2) (ix2 R ⟨6144 + k.val, by omega⟩) := by
  show V m c main_arg2 (((cfg0.win 3).blk t).view.emb (ix2 r k)) = _
  rw [show ((cfg0.win 3).blk t).view.emb (ix2 r k) = ix2 R ⟨6144 + k.val, by omega⟩ from ix2_of
    (show win0_3.index t 0 * 512 + 1 * (r : Fin 512).val = _ by rw [(idx_rows t).2.2.2.1]; simp <;> omega)
    (show win0_3.index t 1 * 1024 + 1 * k.val = _ by rw [(idx_rows t).2.2.2.1]; simp <;> omega)]
  rw [V_main_arg2]
theorem blk_w0 :
    iblk m c 5 t (ix2 k d) = m ((c : Thread nD τ).loc main_arg5) (ix3 0 k d) := by
  show V m c main_v5 (((cfg0.win 5).blk t).view.emb (ix2 k d)) = _
  rw [show ((cfg0.win 5).blk t).view.emb (ix2 k d) = ix2 k d from ix2_of
    (show win0_5.index t 0 * 1024 + 1 * (k : Fin 1024).val = _ by rw [(idx_params t).1]; simp)
    (show win0_5.index t 1 * 1024 + 1 * d.val = _ by rw [(idx_params t).1]; simp)]
  rw [V_w0]; exact (w_read _ k d).1
theorem blk_w1 :
    iblk m c 6 t (ix2 k d) = m ((c : Thread nD τ).loc main_arg5) (ix3 1 k d) := by
  show V m c main_v8 (((cfg0.win 6).blk t).view.emb (ix2 k d)) = _
  rw [show ((cfg0.win 6).blk t).view.emb (ix2 k d) = ix2 k d from ix2_of
    (show win0_6.index t 0 * 1024 + 1 * (k : Fin 1024).val = _ by rw [(idx_params t).2.1]; simp)
    (show win0_6.index t 1 * 1024 + 1 * d.val = _ by rw [(idx_params t).2.1]; simp)]
  rw [V_w1]; exact (w_read _ k d).2
theorem blk_wo :
    iblk m c 7 t (ix2 k d) = m ((c : Thread nD τ).loc main_arg6) (ix2 k d) := by
  show V m c main_v9 (((cfg0.win 7).blk t).view.emb (ix2 k d)) = _
  rw [show ((cfg0.win 7).blk t).view.emb (ix2 k d) = ix2 k d from ix2_of
    (show win0_7.index t 0 * 1024 + 1 * (k : Fin 1024).val = _ by rw [(idx_params t).2.2.1]; simp)
    (show win0_7.index t 1 * 1024 + 1 * d.val = _ by rw [(idx_params t).2.2.1]; simp)]
  rw [V_wo]; exact wo_read _ k d
theorem blk_b0 :
    iblk m c 8 t (ix2 0 k) = m ((c : Thread nD τ).loc main_arg4) (ix1 ⟨k.val, by omega⟩) := by
  show V m c main_v10 (((cfg0.win 8).blk t).view.emb (ix2 0 k)) = _
  rw [show ((cfg0.win 8).blk t).view.emb (ix2 0 k) = ix2 0 ⟨k.val, by omega⟩ from ix2_of
    (show win0_8.index t 0 * 1 + 1 * (0 : Fin 1).val = _ by rw [(idx_params t).2.2.2.1]; simp)
    (show win0_8.index t 1 * 1024 + 1 * k.val = _ by rw [(idx_params t).2.2.2.1]; simp <;> omega)]
  rw [V_b0]; exact bias_read _ _
theorem blk_b1 :
    iblk m c 9 t (ix2 0 k) = m ((c : Thread nD τ).loc main_arg4) (ix1 ⟨1024 + k.val, by omega⟩) := by
  show V m c main_v11 (((cfg0.win 9).blk t).view.emb (ix2 0 k)) = _
  rw [show ((cfg0.win 9).blk t).view.emb (ix2 0 k) = ix2 0 ⟨1024 + k.val, by omega⟩ from ix2_of
    (show win0_9.index t 0 * 1 + 1 * (0 : Fin 1).val = _ by rw [(idx_params t).2.2.2.2.1]; simp)
    (show win0_9.index t 1 * 1024 + 1 * k.val = _ by rw [(idx_params t).2.2.2.2.1]; simp <;> omega)]
  rw [V_b1]; exact bias_read _ _
theorem blk_nw :
    iblk m c 10 t (ix2 0 k) = m ((c : Thread nD τ).loc main_arg7) (ix1 k) := by
  show V m c main_v12 (((cfg0.win 10).blk t).view.emb (ix2 0 k)) = _
  rw [show ((cfg0.win 10).blk t).view.emb (ix2 0 k) = ix2 0 k from ix2_of
    (show win0_10.index t 0 * 1 + 1 * (0 : Fin 1).val = _ by rw [(idx_params t).2.2.2.2.2]; simp)
    (show win0_10.index t 1 * 1024 + 1 * k.val = _ by rw [(idx_params t).2.2.2.2.2]; simp)]
  rw [V_nw]; exact nw_read _ _

/-! ## The array after the run -/

/-- The reference's result as a function of the launch contents of the kernel's arguments. -/
def result : Buf (Elt Ideal) ((c : Thread nD τ).loc main_v13) :=
  Cert.MergeRefIdeal.Read.val_main_v41 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

/-- Point `t` writes back rows `512 t … 512 t + 511` of the reference's result. -/
theorem flushed_eq : (dats m 0 c).flushed 11 t = ((cfg0.win 11).blk t).view.read (Elt Ideal) (result m c) := by
  rw [Cert.MergeIdeal.Value.flushed11]
  funext y
  have ht : t.val < 64 := lt_of_lt_of_eq t.isLt N_0
  have hy0 : (y 0).val < 512 := (y 0).isLt
  have hy1 : (y 1).val < 1024 := (y 1).isLt
  show out0_11 _ _ _ _ _ _ _ _ _ _ _ ((cfg0.win 11).xinj (grid0.coords t) y) = result m c (((cfg0.win 11).blk t).view.emb y)
  rw [show (cfg0.win 11).xinj (grid0.coords t) y = ix2 ⟨(y 0).val, hy0⟩ ⟨(y 1).val, hy1⟩ from ix2_of rfl rfl,
    show ((cfg0.win 11).blk t).view.emb y = ix2 ⟨512 * t.val + (y 0).val, by omega⟩ ⟨(y 1).val, hy1⟩ from ix2_of
      (show win0_11.index t 0 * 512 + 1 * (y 0).val = _ by rw [(idx_rows t).2.2.2.2.2]; simp <;> omega)
      (show win0_11.index t 1 * 1024 + 1 * (y 1).val = _ by rw [(idx_rows t).2.2.2.2.2]; simp)]
  have hb : (512 * t.val + (y 0).val) / 8192 < 4 := by omega
  have hs : (512 * t.val + (y 0).val) % 8192 < 8192 := by omega
  rw [out_entry, result, ref_entry _ _ _ _ _ _ _ _ ⟨_, hb⟩ ⟨_, hs⟩ _ (by simp only; omega)]
  simp only [blk_w0, blk_w1, blk_wo, blk_b0, blk_b1, blk_nw]
  have hR : (⟨512 * t.val + (y 0).val, by omega⟩ : Fin 32768).val = 512 * t.val + (⟨(y 0).val, hy0⟩ : Fin 512).val := rfl
  have hB : (⟨512 * t.val + (y 0).val, by omega⟩ : Fin 32768).val = 8192 * (⟨_, hb⟩ : Fin 4).val + (⟨_, hs⟩ : Fin 8192).val := by
    simp only; omega
  simp only [blk_ya m c t _ _ _ _ _ hR hB, blk_yb m c t _ _ _ _ _ hR hB, blk_x m c t _ _ _ _ _ hR hB,
    blk_g0 m c t _ _ _ hR, blk_g1 m c t _ _ _ hR]

theorem mem_blk (i : S32768x1024.Idx) :
    i ∈ ((cfg0.win 11).blk t).view.set ↔ ∀ a : Fin 2, win0_11.index t a * S512x1024.size a ≤ (i a).val
      ∧ (i a).val < win0_11.index t a * S512x1024.size a + S512x1024.size a := by
  show i ∈ ((View.whole main_v13).slice (win0_11.rect t)).set ↔ _
  rw [View.set_slice_whole, Rect.mem_set_unit]
  exact Iff.rfl

/-- The blocks tile the array. -/
theorem final : (dats m 0 c).arrAt 11 cfg0.N = result m c :=
  (dats m 0 c).arrAt_eq_of_cover 11 _ (fun t _ => flushed_eq m c t) (fun (i : S32768x1024.Idx) => by
    have hi0 : (i 0).val < 32768 := (i 0).isLt
    have hi1 : (i 1).val < 1024 := (i 1).isLt
    have hN : (i 0).val / 512 < cfg0.N := lt_of_lt_of_eq (by omega) N_0.symm
    refine ⟨⟨(i 0).val / 512, hN⟩, (by decide +kernel : ∀ t : Fin grid0.N, win0_11.flush t = true) _, ?_⟩
    have h := (idx_rows ⟨(i 0).val / 512, hN⟩).2.2.2.2.2
    refine (mem_blk _ i).2 fun a => ?_
    match a with
    | ⟨0, _⟩ =>
      show win0_11.index _ (0 : Fin 2) * 512 ≤ (i 0).val ∧ (i 0).val < win0_11.index _ (0 : Fin 2) * 512 + 512
      rw [h]; simp <;> omega
    | ⟨1, _⟩ =>
      show win0_11.index _ (1 : Fin 2) * 1024 ≤ (i 1).val ∧ (i 1).val < win0_11.index _ (1 : Fin 2) * 1024 + 1024
      rw [h]; simp <;> omega)

end Cert.Proof.Merge
-- ==== Proof.lean ====
/- The certificate of the input projection and the merge, with the delta rule's frame: `Cert.Claim` (Defs) from the frames
   and the hand proofs of the values. -/
module

public import proofs.«01_k».proof.Defs
public import proofs.«01_k».proof.Proof.Gen.InProj
public import proofs.«01_k».proof.Proof.Gen.InProjIdeal
public import proofs.«01_k».proof.Proof.Gen.InProjRefIdeal.Run
public import proofs.«01_k».proof.Proof.Gen.InProjRefIdeal.Read
public import proofs.«01_k».proof.Proof.Gen.Pre_finite_weights
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.MergeRefIdeal.Run
public import proofs.«01_k».proof.Proof.Gen.MergeRefIdeal.Read
public import proofs.«01_k».proof.Proof.Gen.Delta
public import proofs.«01_k».proof.Proof.Gen.Delta.Frame
public import proofs.«01_k».proof.Proof.Gen.DeltaIdeal
public import proofs.«01_k».proof.Proof.Gen.DeltaIdeal.Frame
public import proofs.«01_k».proof.Proof.InProjTwin
public import proofs.«01_k».proof.Proof.InProjPre
public import proofs.«01_k».proof.Proof.MergeValue
public import Idealize.ShloMosaic.Adequacy
public import Idealize.ShloMosaic.Init

@[expose] public section

noncomputable section

namespace Cert.Proof

open Idealize.ShloMosaic Idealize.SL.Sem

/-! ## The input projection -/

theorem quiescent_inproj_ref : Cert.quiescent_InProjRefIdeal := by
  intro m g _
  refine (θ_run Cert.InProjRefIdeal.defs _ _).mono (fun r h => ⟨fun c => ?_, sem_eq_zero_of_no_sems (by decide) r.2⟩)
    (Cert.InProjRefIdeal.Value.run (F := Ideal) m g)
  exact (h c).2.2.2

/-- Where the weights are numbers the kernel and the reference end holding the same three arrays. -/
theorem algebraic_inproj : Cert.algebraic_InProjIdeal_InProjRefIdeal_pre_finite_weights := by
  pair_intro
  · run_from (InProj.run m g)
  · run_from (Cert.InProjRefIdeal.Value.run m' g')
    · obtain ⟨h0, h1, h2, h3⟩ := hagree c
      rw [Cert.InProjRefIdeal.Read.val_main_v54_eq, h0, h1, h2, h3]
      exact (InProj.final8 m c (InProj.weights m hpre c)).symm
    · exact (Cert.InProjRefIdeal.Read.val_main_v56_eq _ _ _).trans (InProj.final9 m c).symm
    · exact (Cert.InProjRefIdeal.Read.val_main_v57_eq _ _ _).trans (InProj.final10 m c).symm

/-! ## The merge -/

theorem quiescent_merge_ref : Cert.quiescent_MergeRefIdeal := by
  intro m g _
  refine (θ_run Cert.MergeRefIdeal.defs _ _).mono (fun r h => ⟨fun c => ?_, sem_eq_zero_of_no_sems (by decide) r.2⟩)
    (Cert.MergeRefIdeal.Value.run (F := Ideal) m g)
  exact (h c).2

/-- The kernel and the reference end holding the same. -/
theorem algebraic_merge : Cert.algebraic_MergeIdeal_MergeRefIdeal := by
  pair_intro
  · run_from (Cert.MergeIdeal.Value.run_blocks m g)
  · run_from (Cert.MergeRefIdeal.Value.run m' g')
    obtain ⟨h0, h1, h2, h3, h4, h5, h6, h7⟩ := hagree c
    rw [Cert.MergeRefIdeal.Read.val_main_v41_eq, h0, h1, h2, h3, h4, h5, h6, h7]
    exact (Merge.final m c).symm

theorem claim : Cert.Claim := ⟨Cert.InProj.Gen.facts, Cert.InProjIdeal.Gen.facts, Cert.InProjRefIdeal.Gen.facts, Cert.Merge.Gen.facts,
  Cert.MergeIdeal.Gen.facts, Cert.MergeRefIdeal.Gen.facts, Cert.Delta.Gen.facts, Cert.DeltaIdeal.Gen.facts,
  Cert.Pre_finite_weights.Gen.facts,
  fun m g _ => Cert.InProj.Hand.frame (F := Bits) m g, fun m g _ => Cert.InProjIdeal.Hand.frame (F := Ideal) m g,
  fun m g _ => Cert.InProjIdeal.Hand.frame (F := Ideal) m g, quiescent_inproj_ref, fun m g _ => quiescent_inproj_ref m g trivial,
  fun m g _ => Cert.Merge.Gen.frame m g, fun m g _ => Cert.MergeIdeal.Gen.frame m g, quiescent_merge_ref,
  fun m g _ => Cert.Delta.Gen.frame m g, fun m g _ => Cert.DeltaIdeal.Gen.frame m g, trivial, algebraic_inproj, trivial,
  algebraic_merge, trivial⟩

end Cert.Proof

end
